-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_eight_ones [hPre_eight_ones : Cert.Pre_eight_ones.Facts] (m : (ℓ : Loc Cert.KernelIdeal.nD Cert.KernelIdeal.τ Cert.KernelIdeal.sig) → Buf (Elt Ideal) ℓ) : Prop :=
  ∀ c : Dev Cert.KernelIdeal.nD,
    (Cert.Pre_eight_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_eight_ones [hPre_eight_ones : Cert.Pre_eight_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eight_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_eight_ones [hKernelIdeal : Cert.KernelIdeal.Facts] [hPre_eight_ones : Cert.Pre_eight_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_eight_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_eight_ones [hReferenceIdeal : Cert.ReferenceIdeal.Facts] [hPre_eight_ones : Cert.Pre_eight_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_eight_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_eight_ones [hKernelIdeal : Cert.KernelIdeal.Facts] [hReferenceIdeal : Cert.ReferenceIdeal.Facts] [hPre_eight_ones : Cert.Pre_eight_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_eight_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_eight_ones : Cert.Pre_eight_ones.Facts),
    quiescent_Kernel (hKernel := hKernel)
    ∧ quiescent_KernelIdeal (hKernelIdeal := hKernelIdeal)
    ∧ quiescent_KernelIdeal_pre_eight_ones (hKernelIdeal := hKernelIdeal) (hPre_eight_ones := hPre_eight_ones)
    ∧ quiescent_ReferenceIdeal (hReferenceIdeal := hReferenceIdeal)
    ∧ quiescent_ReferenceIdeal_pre_eight_ones (hReferenceIdeal := hReferenceIdeal) (hPre_eight_ones := hPre_eight_ones)
    ∧ preserves_Kernel_KernelIdeal
    ∧ algebraic_KernelIdeal_ReferenceIdeal_pre_eight_ones (hKernelIdeal := hKernelIdeal) (hReferenceIdeal := hReferenceIdeal) (hPre_eight_ones := hPre_eight_ones)
-- ==== Pre_eight_ones.lean ====
abbrev S4x16x64x64 : Shape := ⟨4, ![4, 16, 64, 64]⟩
abbrev S4x16x2 : Shape := ⟨3, ![4, 16, 2]⟩
abbrev S4x5x16x8x4088 : Shape := ⟨5, ![4, 5, 16, 8, 4088]⟩
abbrev S4x5 : Shape := ⟨2, ![4, 5]⟩
abbrev S64x4096 : Shape := ⟨2, ![64, 4096]⟩
abbrev S_ : Shape := ⟨0, ![]⟩
abbrev S64 : Shape := ⟨1, ![64]⟩

class Facts : Prop where
  shapeCasts_S4x16x64x64_S64x4096 : S4x16x64x64.ShapeCasts S64x4096
  bcast_S_S64x4096 : S_.BroadcastsInDim S64x4096 (![] : Fin 0 → Fin S64x4096.rank)
  reducesTo_S64x4096_S_d0_1 : S64x4096.ReducesTo [0, 1] S_
  h_S_ : 0 < S_.numel
  reducesTo_S64x4096_S64_d1 : S64x4096.ReducesTo [1] S64
  bcast_S_S64 : S_.BroadcastsInDim S64 (![] : Fin 0 → Fin S64.rank)
  reducesTo_S64_S_d0 : S64.ReducesTo [0] S_

variable [Facts]

def fn {F : FTy → Type} [FloatOps F] (main_arg0 : FVec F S4x16x64x64 .f32) (main_arg1 : IVec S4x16x64x64 32) (main_arg2 : FVec F S4x16x2 .f32) (main_arg3 : FVec F S4x5x16x8x4088 .f32) (main_arg4 : FVec F S4x5 .f32) : IVec S_ 1 :=
  let main_v0 : IVec S64x4096 32 := shapeCast S64x4096 main_arg1 shapeCasts_S4x16x64x64_S64x4096
  let main_c : IVec S_ 32 := constantI S_ 32 0#32
  let main_v1 : IVec S64x4096 32 := broadcastInDim S64x4096 ![] bcast_S_S64x4096 main_c
  let main_v2 : IVec S64x4096 1 := cmpi .eq main_v0 main_v1
  let main_c_0 : IVec S_ 32 := constantI S_ 32 1#32
  let main_v3 : IVec S64x4096 32 := broadcastInDim S64x4096 ![] bcast_S_S64x4096 main_c_0
  let main_v4 : IVec S64x4096 1 := cmpi .eq main_v0 main_v3
  let main_v5 : IVec S64x4096 1 := ori main_v2 main_v4
  let main_c_1 : IVec S_ 1 := constantI S_ 1 1#1
  let main_v6 : IVec S_ 1 := (fun x v => Host.reduce IntOp.andi x v reducesTo_S64x4096_S_d0_1 h_S_) main_v5 main_c_1
  let main_c_2 : IVec S_ 32 := constantI S_ 32 0#32
  let main_v7 : IVec S64 32 := (fun x v => Host.reduce IntOp.addi x v reducesTo_S64x4096_S64_d1 h_S_) main_v0 main_c_2
  let main_c_3 : IVec S_ 32 := constantI S_ 32 8#32
  let main_v8 : IVec S64 32 := broadcastInDim S64 ![] bcast_S_S64 main_c_3
  let main_v9 : IVec S64 1 := cmpi .eq main_v7 main_v8
  let main_c_4 : IVec S_ 1 := constantI S_ 1 1#1
  let main_v10 : IVec S_ 1 := (fun x v => Host.reduce IntOp.andi x v reducesTo_S64_S_d0 h_S_) main_v9 main_c_4
  let main_v11 : IVec S_ 1 := andi main_v6 main_v10
  main_v11
-- ==== Kernel.lean ====
abbrev S4x16x64x64 : Shape := ⟨4, ![4, 16, 64, 64]⟩
abbrev S4x16x2 : Shape := ⟨3, ![4, 16, 2]⟩
abbrev S4x5x16x8x4088 : Shape := ⟨5, ![4, 5, 16, 8, 4088]⟩
abbrev S4x5 : Shape := ⟨2, ![4, 5]⟩
abbrev S4x8x16x8 : Shape := ⟨4, ![4, 8, 16, 8]⟩
abbrev S4x8x16 : Shape := ⟨3, ![4, 8, 16]⟩
abbrev S4x22x22 : Shape := ⟨3, ![4, 22, 22]⟩
abbrev S1x1 : Shape := ⟨2, ![1, 1]⟩
abbrev S1x16x64x64 : Shape := ⟨4, ![1, 16, 64, 64]⟩
abbrev S1x5x16x8x4088 : Shape := ⟨5, ![1, 5, 16, 8, 4088]⟩
abbrev S1x22x22 : Shape := ⟨3, ![1, 22, 22]⟩
abbrev S1x8x16x8 : Shape := ⟨4, ![1, 8, 16, 8]⟩
abbrev S1x8x16 : Shape := ⟨3, ![1, 8, 16]⟩
abbrev S8x128 : Shape := ⟨2, ![8, 128]⟩
abbrev S22x22 : Shape := ⟨2, ![22, 22]⟩
abbrev S16x64x64 : Shape := ⟨3, ![16, 64, 64]⟩
abbrev S16x4096 : Shape := ⟨2, ![16, 4096]⟩
abbrev S16x1 : Shape := ⟨2, ![16, 1]⟩
abbrev S16x4095 : Shape := ⟨2, ![16, 4095]⟩
abbrev S16x2 : Shape := ⟨2, ![16, 2]⟩
abbrev S16x4094 : Shape := ⟨2, ![16, 4094]⟩
abbrev S16x4 : Shape := ⟨2, ![16, 4]⟩
abbrev S16x4092 : Shape := ⟨2, ![16, 4092]⟩
abbrev S16x8 : Shape := ⟨2, ![16, 8]⟩
abbrev S16x4088 : Shape := ⟨2, ![16, 4088]⟩
abbrev S16x16 : Shape := ⟨2, ![16, 16]⟩
abbrev S16x4080 : Shape := ⟨2, ![16, 4080]⟩
abbrev S16x32 : Shape := ⟨2, ![16, 32]⟩
abbrev S16x4064 : Shape := ⟨2, ![16, 4064]⟩
abbrev S16x64 : Shape := ⟨2, ![16, 64]⟩
abbrev S16x4032 : Shape := ⟨2, ![16, 4032]⟩
abbrev S16x128 : Shape := ⟨2, ![16, 128]⟩
abbrev S16x3968 : Shape := ⟨2, ![16, 3968]⟩
abbrev S16x256 : Shape := ⟨2, ![16, 256]⟩
abbrev S16x3840 : Shape := ⟨2, ![16, 3840]⟩
abbrev S16x512 : Shape := ⟨2, ![16, 512]⟩
abbrev S16x3584 : Shape := ⟨2, ![16, 3584]⟩
abbrev S16x1024 : Shape := ⟨2, ![16, 1024]⟩
abbrev S16x3072 : Shape := ⟨2, ![16, 3072]⟩
abbrev S16x2048 : Shape := ⟨2, ![16, 2048]⟩
abbrev S16x8x4096 : Shape := ⟨3, ![16, 8, 4096]⟩
abbrev S16x1x4096 : Shape := ⟨3, ![16, 1, 4096]⟩
abbrev S16x4093 : Shape := ⟨2, ![16, 4093]⟩
abbrev S16x3 : Shape := ⟨2, ![16, 3]⟩
abbrev S16x4091 : Shape := ⟨2, ![16, 4091]⟩
abbrev S16x5 : Shape := ⟨2, ![16, 5]⟩
abbrev S16x4090 : Shape := ⟨2, ![16, 4090]⟩
abbrev S16x6 : Shape := ⟨2, ![16, 6]⟩
abbrev S16x4089 : Shape := ⟨2, ![16, 4089]⟩
abbrev S16x7 : Shape := ⟨2, ![16, 7]⟩
abbrev S128x1 : Shape := ⟨2, ![128, 1]⟩
abbrev S128x4096 : Shape := ⟨2, ![128, 4096]⟩
abbrev S1x128x4096 : Shape := ⟨3, ![1, 128, 4096]⟩
abbrev S1 : Shape := ⟨1, ![1]⟩
abbrev S1x1x1 : Shape := ⟨3, ![1, 1, 1]⟩
abbrev S128 : Shape := ⟨1, ![128]⟩
abbrev S1x128 : Shape := ⟨2, ![1, 128]⟩
abbrev S8x16x8 : Shape := ⟨3, ![8, 16, 8]⟩
abbrev S1x16x8 : Shape := ⟨3, ![1, 16, 8]⟩
abbrev S8 : Shape := ⟨1, ![8]⟩
abbrev S1x16x4096 : Shape := ⟨3, ![1, 16, 4096]⟩
abbrev S8x16 : Shape := ⟨2, ![8, 16]⟩
abbrev S8x16x1 : Shape := ⟨3, ![8, 16, 1]⟩
abbrev S8x16x4096 : Shape := ⟨3, ![8, 16, 4096]⟩
abbrev S16 : Shape := ⟨1, ![16]⟩
abbrev S1x16 : Shape := ⟨2, ![1, 16]⟩
abbrev S128x4088 : Shape := ⟨2, ![128, 4088]⟩
abbrev S1x1x16x8x4088 : Shape := ⟨5, ![1, 1, 16, 8, 4088]⟩
abbrev S16x8x4088 : Shape := ⟨3, ![16, 8, 4088]⟩
abbrev S1x128x4088 : Shape := ⟨3, ![1, 128, 4088]⟩
abbrev S22 : Shape := ⟨1, ![22]⟩
abbrev S1x22 : Shape := ⟨2, ![1, 22]⟩
abbrev S1x5 : Shape := ⟨2, ![1, 5]⟩
abbrev S22x5 : Shape := ⟨2, ![22, 5]⟩
abbrev S22x8 : Shape := ⟨2, ![22, 8]⟩
abbrev S22x1 : Shape := ⟨2, ![22, 1]⟩
abbrev S1x1x22 : Shape := ⟨3, ![1, 1, 22]⟩

abbrev nBuf : Space → Nat
  | .hbm => 11
  | .vmem => 15
  | .smem => 5
  | _ => 0

abbrev bufTy : (tb : Table) → Fin (tcTables nBuf tb) → BufTy
  | .hbm, ⟨0, _⟩ => ⟨S4x16x64x64, .f32⟩
  | .hbm, ⟨1, _⟩ => ⟨S4x16x64x64, .i32⟩
  | .hbm, ⟨2, _⟩ => ⟨S4x16x2, .f32⟩
  | .hbm, ⟨3, _⟩ => ⟨S4x5x16x8x4088, .f32⟩
  | .hbm, ⟨4, _⟩ => ⟨S4x5, .f32⟩
  | .hbm, ⟨5, _⟩ => ⟨S4x8x16x8, .f32⟩
  | .hbm, ⟨6, _⟩ => ⟨S4x8x16, .i32⟩
  | .hbm, ⟨7, _⟩ => ⟨S4x22x22, .f32⟩
  | .hbm, ⟨8, _⟩ => ⟨S1x1, .f32⟩
  | .hbm, ⟨9, _⟩ => ⟨S1x1, .f32⟩
  | .hbm, ⟨10, _⟩ => ⟨S1x1, .f32⟩
  | .local _ .vmem, ⟨0, _⟩ => ⟨S1x16x64x64, .f32⟩
  | .local _ .vmem, ⟨1, _⟩ => ⟨S1x16x64x64, .f32⟩
  | .local _ .vmem, ⟨2, _⟩ => ⟨S1x16x64x64, .i32⟩
  | .local _ .vmem, ⟨3, _⟩ => ⟨S1x16x64x64, .i32⟩
  | .local _ .vmem, ⟨4, _⟩ => ⟨S1x5x16x8x4088, .f32⟩
  | .local _ .vmem, ⟨5, _⟩ => ⟨S1x5x16x8x4088, .f32⟩
  | .local _ .vmem, ⟨6, _⟩ => ⟨S1x22x22, .f32⟩
  | .local _ .vmem, ⟨7, _⟩ => ⟨S1x22x22, .f32⟩
  | .local _ .vmem, ⟨8, _⟩ => ⟨S1x8x16x8, .f32⟩
  | .local _ .vmem, ⟨9, _⟩ => ⟨S1x8x16x8, .f32⟩
  | .local _ .vmem, ⟨10, _⟩ => ⟨S1x8x16, .i32⟩
  | .local _ .vmem, ⟨11, _⟩ => ⟨S1x8x16, .i32⟩
  | .local _ .vmem, ⟨12, _⟩ => ⟨S4x5, .f32⟩
  | .local _ .vmem, ⟨13, _⟩ => ⟨S8x128, .f32⟩
  | .local _ .vmem, ⟨14, _⟩ => ⟨S8x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S4x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_cst_0 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_scratch2 : Ref sig .tc := ⟨.smem, 3, rfl⟩
abbrev cc0_scratch3 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v327 : Index := Scalar.indexCast arg0
  let c0_116 : Index := 0#32
  ![v327.toNat, 0]
def k0_cond3 (i : grid0.Coords) : BitVec 1 :=
  let arg0 : BitVec 32 := BitVec.ofNat 32 (i 0).val
  let c3_i32_133 : BitVec 32 := 3#32
  let v359 : BitVec 1 := Scalar.cmpi .eq arg0 c3_i32_133
  let v360 : BitVec 32 := Scalar.extui v359
  let c0_i32_134 : BitVec 32 := 0#32
  let v361 : BitVec 1 := Scalar.cmpi .ne v360 c0_i32_134
  v361

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5x16x8x4088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x22x22 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x16x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4x16x64x64 : Shape := ⟨4, ![4, 16, 64, 64]⟩
abbrev S4x16x2 : Shape := ⟨3, ![4, 16, 2]⟩
abbrev S4x5x16x8x4088 : Shape := ⟨5, ![4, 5, 16, 8, 4088]⟩
abbrev S4x5 : Shape := ⟨2, ![4, 5]⟩
abbrev S4x8x16 : Shape := ⟨3, ![4, 8, 16]⟩
abbrev S4x8x16x1x1 : Shape := ⟨5, ![4, 8, 16, 1, 1]⟩
abbrev S4x22 : Shape := ⟨2, ![4, 22]⟩
abbrev S4x22x1x1x1 : Shape := ⟨5, ![4, 22, 1, 1, 1]⟩
abbrev S4x16x4096 : Shape := ⟨3, ![4, 16, 4096]⟩
abbrev S4x16x8 : Shape := ⟨3, ![4, 16, 8]⟩
abbrev S4x16x4088 : Shape := ⟨3, ![4, 16, 4088]⟩
abbrev S_ : Shape := ⟨0, ![]⟩
abbrev S4x16x8x1 : Shape := ⟨4, ![4, 16, 8, 1]⟩
abbrev S4x16x4088x1 : Shape := ⟨4, ![4, 16, 4088, 1]⟩
abbrev S4x16x1x4088 : Shape := ⟨4, ![4, 16, 1, 4088]⟩
abbrev S4x16x8x4088 : Shape := ⟨4, ![4, 16, 8, 4088]⟩
abbrev S4x16 : Shape := ⟨2, ![4, 16]⟩
abbrev S4 : Shape := ⟨1, ![4]⟩
abbrev S1x16x8x4088 : Shape := ⟨4, ![1, 16, 8, 4088]⟩
abbrev S16x8x4088 : Shape := ⟨3, ![16, 8, 4088]⟩
abbrev S4x1x16x8x4088 : Shape := ⟨5, ![4, 1, 16, 8, 4088]⟩
abbrev S8 : Shape := ⟨1, ![8]⟩
abbrev S1x1x1x8x1 : Shape := ⟨5, ![1, 1, 1, 8, 1]⟩
abbrev S4088 : Shape := ⟨1, ![4088]⟩
abbrev S1x1x1x1x4088 : Shape := ⟨5, ![1, 1, 1, 1, 4088]⟩
abbrev S4x8x16x8x1 : Shape := ⟨5, ![4, 8, 16, 8, 1]⟩
abbrev S4x8x16x8x4088 : Shape := ⟨5, ![4, 8, 16, 8, 4088]⟩
abbrev S4x8x16x1x4088 : Shape := ⟨5, ![4, 8, 16, 1, 4088]⟩
abbrev S4x17x16x8x4088 : Shape := ⟨5, ![4, 17, 16, 8, 4088]⟩
abbrev S4x17x16x8 : Shape := ⟨4, ![4, 17, 16, 8]⟩
abbrev S4x17x16 : Shape := ⟨3, ![4, 17, 16]⟩
abbrev S4x17 : Shape := ⟨2, ![4, 17]⟩
abbrev S4x22x16x8x4088 : Shape := ⟨5, ![4, 22, 16, 8, 4088]⟩
abbrev S4x22x1 : Shape := ⟨3, ![4, 22, 1]⟩
abbrev S22 : Shape := ⟨1, ![22]⟩
abbrev S1x1 : Shape := ⟨2, ![1, 1]⟩

abbrev nBuf : Space → Nat
  | .hbm => 184
  | .vmem => 0
  | .smem => 0
  | _ => 0

abbrev hbmTy0_0 (i : Nat) : BufTy := match i % 128 with
  | 0 => ⟨S4x16x64x64, .f32⟩
  | 1 => ⟨S4x16x64x64, .i32⟩
  | 2 => ⟨S4x16x2, .f32⟩
  | 3 => ⟨S4x5x16x8x4088, .f32⟩
  | 4 => ⟨S4x5, .f32⟩
  | 5 => ⟨S4x8x16, .i32⟩
  | 6 => ⟨S4x8x16x1x1, .i32⟩
  | 7 => ⟨S4x8x16, .i32⟩
  | 8 => ⟨S4x8x16x1x1, .i32⟩
  | 9 => ⟨S4x22, .i32⟩
  | 10 => ⟨S4x22x1x1x1, .i32⟩
  | 11 => ⟨S4x22, .i32⟩
  | 12 => ⟨S4x16x4096, .i32⟩
  | 13 => ⟨S4x16x4096, .f32⟩
  | 14 => ⟨S4x16x4096, .i32⟩
  | 15 => ⟨S4x16x4096, .i32⟩
  | 16 => ⟨S4x16x4096, .i32⟩
  | 17 => ⟨S4x16x4096, .i32⟩
  | 18 => ⟨S4x16x8, .i32⟩
  | 19 => ⟨S4x16x4096, .i32⟩
  | 20 => ⟨S4x16x4096, .i32⟩
  | 21 => ⟨S4x16x4096, .i32⟩
  | 22 => ⟨S4x16x4088, .i32⟩
  | 23 => ⟨S_, .i32⟩
  | 24 => ⟨S4x16x8, .i32⟩
  | 25 => ⟨S4x16x8, .i1⟩
  | 26 => ⟨S_, .i32⟩
  | 27 => ⟨S4x16x8, .i32⟩
  | 28 => ⟨S4x16x8, .i32⟩
  | 29 => ⟨S4x16x8, .i32⟩
  | 30 => ⟨S4x16x8x1, .i32⟩
  | 31 => ⟨S4x16x8, .f32⟩
  | 32 => ⟨S_, .i32⟩
  | 33 => ⟨S4x16x4088, .i32⟩
  | 34 => ⟨S4x16x4088, .i1⟩
  | 35 => ⟨S_, .i32⟩
  | 36 => ⟨S4x16x4088, .i32⟩
  | 37 => ⟨S4x16x4088, .i32⟩
  | 38 => ⟨S4x16x4088, .i32⟩
  | 39 => ⟨S4x16x4088x1, .i32⟩
  | 40 => ⟨S4x16x4088, .f32⟩
  | 41 => ⟨S4x16x8x1, .f32⟩
  | 42 => ⟨S4x16x1x4088, .f32⟩
  | 43 => ⟨S4x16x8x4088, .f32⟩
  | 44 => ⟨S4x16x8x4088, .f32⟩
  | 45 => ⟨S4x16x8x4088, .f32⟩
  | 46 => ⟨S4x16x8x4088, .f32⟩
  | 47 => ⟨S4x16x8x4088, .f32⟩
  | 48 => ⟨S_, .f32⟩
  | 49 => ⟨S4x16x8x4088, .f32⟩
  | 50 => ⟨S4x16x8x4088, .f32⟩
  | 51 => ⟨S_, .f32⟩
  | 52 => ⟨S4x16x8x4088, .f32⟩
  | 53 => ⟨S4x16x8x4088, .f32⟩
  | 54 => ⟨S_, .f32⟩
  | 55 => ⟨S4x16x8x4088, .f32⟩
  | 56 => ⟨S4x16x8x4088, .i1⟩
  | 57 => ⟨S_, .i1⟩
  | 58 => ⟨S4x16x8, .i1⟩
  | 59 => ⟨S_, .i1⟩
  | 60 => ⟨S4x16, .i1⟩
  | 61 => ⟨S4x16, .i32⟩
  | 62 => ⟨S_, .i32⟩
  | 63 => ⟨S4, .i32⟩
  | 64 => ⟨S4, .f32⟩
  | 65 => ⟨S_, .f32⟩
  | 66 => ⟨S4, .f32⟩
  | 67 => ⟨S4, .f32⟩
  | 68 => ⟨S_, .f32⟩
  | 69 => ⟨S4x16x8x4088, .f32⟩
  | 70 => ⟨S4x16x8x4088, .f32⟩
  | 71 => ⟨S_, .f32⟩
  | 72 => ⟨S4x16x8x4088, .f32⟩
  | 73 => ⟨S4x16x8x4088, .f32⟩
  | 74 => ⟨S1x16x8x4088, .f32⟩
  | 75 => ⟨S16x8x4088, .f32⟩
  | 76 => ⟨S_, .f32⟩
  | 77 => ⟨S_, .f32⟩
  | 78 => ⟨S_, .f32⟩
  | 79 => ⟨S_, .f32⟩
  | 80 => ⟨S4x16x8x4088, .f32⟩
  | 81 => ⟨S_, .f32⟩
  | 82 => ⟨S4x16x8x4088, .f32⟩
  | 83 => ⟨S4x16x8x4088, .f32⟩
  | 84 => ⟨S_, .f32⟩
  | 85 => ⟨S4x16x8x4088, .f32⟩
  | 86 => ⟨S4x16x8x4088, .f32⟩
  | 87 => ⟨S4x1x16x8x4088, .f32⟩
  | 88 => ⟨S8, .i32⟩
  | 89 => ⟨S1x1x1x8x1, .i32⟩
  | 90 => ⟨S4088, .i32⟩
  | 91 => ⟨S1x1x1x1x4088, .i32⟩
  | 92 => ⟨S4x8x16x8x1, .i32⟩
  | 93 => ⟨S4x8x16x8x1, .i32⟩
  | 94 => ⟨S4x8x16x8x1, .i1⟩
  | 95 => ⟨S_, .f32⟩
  | 96 => ⟨S_, .f32⟩
  | 97 => ⟨S4x8x16x8x4088, .i1⟩
  | 98 => ⟨S4x8x16x8x4088, .f32⟩
  | 99 => ⟨S4x8x16x8x4088, .f32⟩
  | 100 => ⟨S4x8x16x8x4088, .f32⟩
  | 101 => ⟨S4x8x16x1x4088, .i32⟩
  | 102 => ⟨S4x8x16x1x4088, .i32⟩
  | 103 => ⟨S4x8x16x1x4088, .i1⟩
  | 104 => ⟨S_, .f32⟩
  | 105 => ⟨S_, .f32⟩
  | 106 => ⟨S4x8x16x8x4088, .i1⟩
  | 107 => ⟨S4x8x16x8x4088, .f32⟩
  | 108 => ⟨S4x8x16x8x4088, .f32⟩
  | 109 => ⟨S4x8x16x8x4088, .f32⟩
  | 110 => ⟨S4x17x16x8x4088, .f32⟩
  | 111 => ⟨S_, .f32⟩
  | 112 => ⟨S4x17x16x8, .f32⟩
  | 113 => ⟨S_, .f32⟩
  | 114 => ⟨S4x17x16, .f32⟩
  | 115 => ⟨S_, .f32⟩
  | 116 => ⟨S4x17x16, .f32⟩
  | 117 => ⟨S4x17x16, .f32⟩
  | 118 => ⟨S_, .f32⟩
  | 119 => ⟨S4x17x16, .f32⟩
  | 120 => ⟨S4x17x16, .f32⟩
  | 121 => ⟨S_, .f32⟩
  | 122 => ⟨S4x17, .f32⟩
  | 123 => ⟨S_, .f32⟩
  | 124 => ⟨S4x17, .f32⟩
  | 125 => ⟨S4x17, .f32⟩
  | 126 => ⟨S4x22x16x8x4088, .f32⟩
  | 127 => ⟨S4x22, .f32⟩
  | _ => ⟨S4x16x64x64, .f32⟩

abbrev hbmTy0_1 (i : Nat) : BufTy := match i % 128 with
  | 0 => ⟨S_, .i32⟩
  | 1 => ⟨S4x22x1x1x1, .i32⟩
  | 2 => ⟨S4x22x1x1x1, .i1⟩
  | 3 => ⟨S_, .i32⟩
  | 4 => ⟨S4x22x1x1x1, .i32⟩
  | 5 => ⟨S4x22x1x1x1, .i32⟩
  | 6 => ⟨S4x22x1x1x1, .i32⟩
  | 7 => ⟨S4x22x1, .i32⟩
  | 8 => ⟨S4x22x16x8x4088, .f32⟩
  | 9 => ⟨S4x1x16x8x4088, .f32⟩
  | 10 => ⟨S4x22x16x8x4088, .f32⟩
  | 11 => ⟨S4x22x16x8x4088, .f32⟩
  | 12 => ⟨S4x22x16x8x4088, .f32⟩
  | 13 => ⟨S_, .f32⟩
  | 14 => ⟨S4x22, .f32⟩
  | 15 => ⟨S_, .i32⟩
  | 16 => ⟨S4x22, .i32⟩
  | 17 => ⟨S4x22, .i1⟩
  | 18 => ⟨S_, .i32⟩
  | 19 => ⟨S4x22, .i32⟩
  | 20 => ⟨S4x22, .i32⟩
  | 21 => ⟨S4x22, .i32⟩
  | 22 => ⟨S4x22x1, .i32⟩
  | 23 => ⟨S4x22, .f32⟩
  | 24 => ⟨S_, .f32⟩
  | 25 => ⟨S22, .f32⟩
  | 26 => ⟨S_, .f32⟩
  | 27 => ⟨S22, .f32⟩
  | 28 => ⟨S22, .f32⟩
  | 29 => ⟨S_, .f32⟩
  | 30 => ⟨S22, .f32⟩
  | 31 => ⟨S22, .f32⟩
  | 32 => ⟨S_, .f32⟩
  | 33 => ⟨S22, .f32⟩
  | 34 => ⟨S22, .f32⟩
  | 35 => ⟨S_, .f32⟩
  | 36 => ⟨S22, .f32⟩
  | 37 => ⟨S22, .f32⟩
  | 38 => ⟨S22, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S1x1, .f32⟩
  | 50 => ⟨S_, .f32⟩
  | 51 => ⟨S_, .f32⟩
  | 52 => ⟨S_, .f32⟩
  | 53 => ⟨S_, .f32⟩
  | 54 => ⟨S1x1, .f32⟩
  | 55 => ⟨S1x1, .f32⟩
  | _ => ⟨S4x16x64x64, .f32⟩

abbrev hbmTy (i : Nat) : BufTy := match i / 128 with
  | 0 => hbmTy0_0 i
  | 1 => hbmTy0_1 i
  | _ => ⟨S4x16x64x64, .f32⟩

abbrev bufTy : (tb : Table) → Fin (tcTables nBuf tb) → BufTy
  | .hbm, ⟨i, _⟩ => hbmTy i
  | _, _ => ⟨S4x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1_0 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_v1_0 : Ref sig .tc := ⟨.hbm, 20, rfl⟩
abbrev main_v8 : Ref sig .tc := ⟨.hbm, 21, rfl⟩
abbrev main_v9 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_v10 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_c_7 : Ref sig .tc := ⟨.hbm, 62, rfl⟩
abbrev main_v28 : Ref sig .tc := ⟨.hbm, 63, rfl⟩
abbrev main_v29 : Ref sig .tc := ⟨.hbm, 64, rfl⟩
abbrev main_cst_8 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_cst_10 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_11 : Ref sig .tc := ⟨.hbm, 76, rfl⟩
abbrev main_v38 : Ref sig .tc := ⟨.hbm, 77, rfl⟩
abbrev main_cst_12 : Ref sig .tc := ⟨.hbm, 78, rfl⟩
abbrev main_v39 : Ref sig .tc := ⟨.hbm, 79, rfl⟩
abbrev main_v40 : Ref sig .tc := ⟨.hbm, 80, rfl⟩
abbrev main_cst_13 : Ref sig .tc := ⟨.hbm, 81, rfl⟩
abbrev main_v41 : Ref sig .tc := ⟨.hbm, 82, rfl⟩
abbrev main_v42 : Ref sig .tc := ⟨.hbm, 83, rfl⟩
abbrev main_cst_14 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_16 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_v57 : Ref sig .tc := ⟨.hbm, 109, rfl⟩
abbrev main_v58 : Ref sig .tc := ⟨.hbm, 110, rfl⟩
abbrev main_cst_17 : Ref sig .tc := ⟨.hbm, 111, rfl⟩
abbrev main_v59 : Ref sig .tc := ⟨.hbm, 112, rfl⟩
abbrev main_cst_18 : Ref sig .tc := ⟨.hbm, 113, rfl⟩
abbrev main_v60 : Ref sig .tc := ⟨.hbm, 114, rfl⟩
abbrev main_cst_19 : Ref sig .tc := ⟨.hbm, 115, rfl⟩
abbrev main_v61 : Ref sig .tc := ⟨.hbm, 116, rfl⟩
abbrev main_v62 : Ref sig .tc := ⟨.hbm, 117, rfl⟩
abbrev main_cst_20 : Ref sig .tc := ⟨.hbm, 118, rfl⟩
abbrev main_v63 : Ref sig .tc := ⟨.hbm, 119, rfl⟩
abbrev main_v64 : Ref sig .tc := ⟨.hbm, 120, rfl⟩
abbrev main_cst_21 : Ref sig .tc := ⟨.hbm, 121, rfl⟩
abbrev main_v65 : Ref sig .tc := ⟨.hbm, 122, rfl⟩
abbrev main_cst_22 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_call6_c : Ref sig .tc := ⟨.hbm, 128, rfl⟩
abbrev main_call6_v0 : Ref sig .tc := ⟨.hbm, 129, rfl⟩
abbrev main_call6_v1 : Ref sig .tc := ⟨.hbm, 130, rfl⟩
abbrev main_call6_c_0 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_call6_v5 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_23 : Ref sig .tc := ⟨.hbm, 141, rfl⟩
abbrev main_v75 : Ref sig .tc := ⟨.hbm, 142, rfl⟩
abbrev main_call7_c : Ref sig .tc := ⟨.hbm, 143, rfl⟩
abbrev main_call7_v0 : Ref sig .tc := ⟨.hbm, 144, rfl⟩
abbrev main_call7_v1 : Ref sig .tc := ⟨.hbm, 145, rfl⟩
abbrev main_call7_c_0 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_call7_v5 : Ref sig .tc := ⟨.hbm, 150, rfl⟩
abbrev main_v76 : Ref sig .tc := ⟨.hbm, 151, rfl⟩
abbrev main_cst_24 : Ref sig .tc := ⟨.hbm, 152, rfl⟩
abbrev main_v77 : Ref sig .tc := ⟨.hbm, 153, rfl⟩
abbrev main_cst_25 : Ref sig .tc := ⟨.hbm, 154, rfl⟩
abbrev main_v78 : Ref sig .tc := ⟨.hbm, 155, rfl⟩
abbrev main_v79 : Ref sig .tc := ⟨.hbm, 156, rfl⟩
abbrev main_cst_26 : Ref sig .tc := ⟨.hbm, 157, rfl⟩
abbrev main_v80 : Ref sig .tc := ⟨.hbm, 158, rfl⟩
abbrev main_v81 : Ref sig .tc := ⟨.hbm, 159, rfl⟩
abbrev main_cst_27 : Ref sig .tc := ⟨.hbm, 160, rfl⟩
abbrev main_v82 : Ref sig .tc := ⟨.hbm, 161, rfl⟩
abbrev main_v83 : Ref sig .tc := ⟨.hbm, 162, rfl⟩
abbrev main_cst_28 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_cst_29 : Ref sig .tc := ⟨.hbm, 167, rfl⟩
abbrev main_v87 : Ref sig .tc := ⟨.hbm, 168, rfl⟩
abbrev main_cst_30 : Ref sig .tc := ⟨.hbm, 169, rfl⟩
abbrev main_v88 : Ref sig .tc := ⟨.hbm, 170, rfl⟩
abbrev main_v89 : Ref sig .tc := ⟨.hbm, 171, rfl⟩
abbrev main_cst_31 : Ref sig .tc := ⟨.hbm, 172, rfl⟩
abbrev main_v90 : Ref sig .tc := ⟨.hbm, 173, rfl⟩
abbrev main_v91 : Ref sig .tc := ⟨.hbm, 174, rfl⟩
abbrev main_cst_32 : Ref sig .tc := ⟨.hbm, 175, rfl⟩
abbrev main_v92 : Ref sig .tc := ⟨.hbm, 176, rfl⟩
abbrev main_v93 : Ref sig .tc := ⟨.hbm, 177, rfl⟩
abbrev main_cst_33 : Ref sig .tc := ⟨.hbm, 178, rfl⟩
abbrev main_v94 : Ref sig .tc := ⟨.hbm, 179, rfl⟩
abbrev main_cst_34 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩

abbrev nD : Nat := 1
abbrev τ : Topo := Topo.v7x

variable {F : FTy → Type} [FloatOps F]
-- ==== Proof.Block.lean ====
/- What one grid point of the kernel computes from its blocks, named. A point treats one image: it ranks the pixels of
   the 16 rows, places the 8 positive and the 4088 negative predictions, and forms its two rows of 22 contributions. -/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Value
open Cert.KernelIdeal Cert.KernelIdeal.Gen

/-- A block of predictions, as the kernel loads it. -/
abbrev PredBlk := Vec Ideal S1x16x64x64 .f32
/-- A block of target bits. -/
abbrev BitBlk := Vec Ideal S1x16x64x64 .i32
/-- One of the five stored comparison sets of an image. -/
abbrev MetaBlk := Vec Ideal S1x1x16x8x4088 .f32

/-- How many ones precede each pixel in its row. -/
def exclB (x1 : BitBlk) : IVec S16x4096 32 :=
  k0_pay15 (F := Ideal) (k0_pay11 x1) (k0_pay12 x1) k0_pay13 (k0_pay14 x1)

/-- The 8 positive predictions of each row, in pixel order. -/
def posB (x0 : PredBlk) (x1 : BitBlk) : FVec Ideal S16x8 .f32 :=
  k0_pay17 (F := Ideal) (k0_pay10 x0) (k0_pay11 x1) (k0_pay12 x1) k0_pay13 (k0_pay14 x1)

/-- The first of the nine placements of the negative predictions. -/
def neg0B (x0 : PredBlk) (x1 : BitBlk) : FVec Ideal S16x4096 .f32 :=
  k0_pay18 (F := Ideal) (k0_pay10 x0) (k0_pay11 x1) (k0_pay12 x1) k0_pay13 (k0_pay14 x1)

/-- The placements so far after the first five shifts. -/
def neg5B (x0 : PredBlk) (x1 : BitBlk) : FVec Ideal S16x4096 .f32 :=
  k0_pay19 (F := Ideal) (k0_pay10 x0) (exclB x1) (k0_pay16 (F := Ideal) (k0_pay11 x1)) (neg0B x0 x1) (constantI S16x4096 1 1#1)

/-- The negative predictions of each row, in pixel order, in the first 4088 columns. -/
def negB (x0 : PredBlk) (x1 : BitBlk) : FVec Ideal S16x4096 .f32 :=
  k0_pay22 (F := Ideal) (k0_pay10 x0) (exclB x1) (k0_pay16 (F := Ideal) (k0_pay11 x1)) (neg5B x0 x1)
    (k0_pay20 (k0_pay16 (F := Ideal) (k0_pay11 x1))) (k0_pay21 (exclB x1))

/-- The negatives, each row repeated for its 8 positives. -/
def negRepB (x0 : PredBlk) (x1 : BitBlk) : FVec Ideal S128x4096 .f32 :=
  k0_pay25 (F := Ideal) (k0_pay10 x0) (exclB x1) (k0_pay16 (F := Ideal) (k0_pay11 x1)) (neg5B x0 x1)
    (k0_pay20 (k0_pay16 (F := Ideal) (k0_pay11 x1))) (k0_pay21 (exclB x1))

/-- The comparison of every positive with every negative. -/
def curB (x0 : PredBlk) (x1 : BitBlk) : FVec Ideal S128x4096 .f32 :=
  k0_pay26 (F := Ideal) (k0_pay24 (posB x0 x1)) (negRepB x0 x1)

/-- The image's accuracy: the share of its rows with a positive above every negative. -/
def accB (x0 : PredBlk) (x1 : BitBlk) : Ideal .f32 :=
  k0_pay36 (F := Ideal) (negB x0 x1) k0_pay23 (k0_pay34 (posB x0 x1)) k0_pay35

/-- The sum of the squares of the comparison. -/
def sqB (x0 : PredBlk) (x1 : BitBlk) : Ideal .f32 :=
  k0_pay27 (F := Ideal) (k0_pay24 (posB x0 x1)) (negRepB x0 x1)

/-- The row sums of the comparison. -/
def rowB (x0 : PredBlk) (x1 : BitBlk) : FVec Ideal S128 .f32 :=
  k0_pay28 (F := Ideal) (k0_pay24 (posB x0 x1)) (negRepB x0 x1)

/-- The row sums of the comparison's absolute value. -/
def absRowB (x0 : PredBlk) (x1 : BitBlk) : FVec Ideal S128 .f32 :=
  k0_pay29 (F := Ideal) (k0_pay24 (posB x0 x1)) (negRepB x0 x1)

/-- The squared distance to the signs of the comparison. -/
def baseB (x0 : PredBlk) (x1 : BitBlk) : Ideal .f32 :=
  k0_pay31 (F := Ideal) (sqB x0 x1) (absRowB x0 x1)

/-- The squared distances to the first eight sets of signs. -/
def dis1B (x0 : PredBlk) (x1 : BitBlk) (x4 : Vec Ideal S1x8x16x8 .f32) : FVec Ideal S8 .f32 :=
  k0_pay32 (F := Ideal) (sqB x0 x1) (rowB x0 x1) (absRowB x0 x1) x4

/-- The squared distances to the second eight sets of signs. -/
def dis2B (x0 : PredBlk) (x1 : BitBlk) (x5 : Vec Ideal S1x8x16 .i32) : FVec Ideal S8 .f32 :=
  k0_pay33 (F := Ideal) (iota .tc S16x4096 32 [1] iota_S16x4096_d1_w32) (curB x0 x1) (sqB x0 x1) (absRowB x0 x1) k0_pay30 x5

/-- The 22 squared distances of one image, in the order its permutation table gives. -/
def disB (x0 : PredBlk) (x1 : BitBlk) (y0 y1 y2 y3 y4 : MetaBlk) (x3 : Vec Ideal S1x22x22 .f32)
    (x4 : Vec Ideal S1x8x16x8 .f32) (x5 : Vec Ideal S1x8x16 .i32) : FVec Ideal S22 .f32 :=
  k0_pay41 (F := Ideal) (k0_pay9 x3) (baseB x0 x1) (dis1B x0 x1 x4) (dis2B x0 x1 x5) (k0_pay37 (curB x0 x1))
    (k0_pay38 (curB x0 x1) y0) (k0_pay39 (curB x0 x1) y1) (k0_pay40 (curB x0 x1) y2) y3 y4

/-- The 22 accuracies of one image, in the same order. -/
def pckB (x0 : PredBlk) (x1 : BitBlk) (x3 : Vec Ideal S1x22x22 .f32) (y6 : Vec Ideal S1x5 .f32) : FVec Ideal S22 .f32 :=
  k0_pay42 (F := Ideal) (k0_pay9 x3) (accB x0 x1) y6

end Cert.KernelIdeal.Value
end
-- ==== Proof.KernelRun.lean ====
/- What the kernel's three results hold after its run: the two rows and the accuracy accumulated over the four images,
   combined at the last point. -/
module

public import proofs.«01_k».proof.Proof.Block
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
variable (m : (ℓ : Loc nD τ sig) → Buf (Elt Ideal) ℓ)

/-- The 22 cells of the first row of an accumulator. -/
abbrev rowRect : Rect S8x128 := Rect.unit (s := S8x128) ![0, 0] ![1, 22] inb_S8x128_S1x22_0_0

/-- Comparison set `0` of the image of point `t`. -/
def meta0 (c : Dev nD) (t : Fin cfg0.N) : MetaBlk :=
  View.ld (iblk m c 2 t) (Rect.unit (s := S1x5x16x8x4088) ![0, 0, 0, 0, 0] ![1, 1, 16, 8, 4088] inb_S1x5x16x8x4088_S1x1x16x8x4088_0_0_0_0_0)
/-- Comparison set `1`. -/
def meta1 (c : Dev nD) (t : Fin cfg0.N) : MetaBlk :=
  View.ld (iblk m c 2 t) (Rect.unit (s := S1x5x16x8x4088) ![0, 1, 0, 0, 0] ![1, 1, 16, 8, 4088] inb_S1x5x16x8x4088_S1x1x16x8x4088_0_1_0_0_0)
/-- Comparison set `2`. -/
def meta2 (c : Dev nD) (t : Fin cfg0.N) : MetaBlk :=
  View.ld (iblk m c 2 t) (Rect.unit (s := S1x5x16x8x4088) ![0, 2, 0, 0, 0] ![1, 1, 16, 8, 4088] inb_S1x5x16x8x4088_S1x1x16x8x4088_0_2_0_0_0)
/-- Comparison set `3`. -/
def meta3 (c : Dev nD) (t : Fin cfg0.N) : MetaBlk :=
  View.ld (iblk m c 2 t) (Rect.unit (s := S1x5x16x8x4088) ![0, 3, 0, 0, 0] ![1, 1, 16, 8, 4088] inb_S1x5x16x8x4088_S1x1x16x8x4088_0_3_0_0_0)
/-- Comparison set `4`. -/
def meta4 (c : Dev nD) (t : Fin cfg0.N) : MetaBlk :=
  View.ld (iblk m c 2 t) (Rect.unit (s := S1x5x16x8x4088) ![0, 4, 0, 0, 0] ![1, 1, 16, 8, 4088] inb_S1x5x16x8x4088_S1x1x16x8x4088_0_4_0_0_0)
/-- The stored accuracies of the image of point `t`. -/
def pckMeta (c : Dev nD) (t : Fin cfg0.N) : Vec Ideal S1x5 .f32 :=
  View.ld (iblk m c 6 t) (Rect.unit (s := S4x5) (k0_off1 (grid0.coords t)) ![1, 5] (k0_off1_inb (grid0.coords t)))

/-- The distances point `t` contributes. -/
def disAt (c : Dev nD) (t : Fin cfg0.N) : FVec Ideal S22 .f32 :=
  disB (iblk m c 0 t) (iblk m c 1 t) (meta0 m c t) (meta1 m c t) (meta2 m c t) (meta3 m c t) (meta4 m c t)
    (iblk m c 3 t) (iblk m c 4 t) (iblk m c 5 t)
/-- The accuracies point `t` contributes. -/
def pckAt (c : Dev nD) (t : Fin cfg0.N) : FVec Ideal S22 .f32 :=
  pckB (iblk m c 0 t) (iblk m c 1 t) (iblk m c 3 t) (pckMeta m c t)
/-- The image accuracy point `t` contributes. -/
def accAt (c : Dev nD) (t : Fin cfg0.N) : Ideal .f32 := accB (iblk m c 0 t) (iblk m c 1 t)

/-- One update of the row of distances adds the point's contribution cell by cell. -/
theorem pay1_apply (D : FVec Ideal S22 .f32) (X : Vec Ideal S1x22 .f32) (b : Fin 22) :
    k0_pay1 (F := Ideal) D X (ix2 0 b) = (X (ix2 0 b) : EReal) + D (ix1 b) := by
  pointwise [k0_pay1]
/-- One update of the row of accuracies, likewise. -/
theorem pay2_apply (D : FVec Ideal S22 .f32) (X : Vec Ideal S1x22 .f32) (b : Fin 22) :
    k0_pay2 (F := Ideal) D X (ix2 0 b) = (X (ix2 0 b) : EReal) + D (ix1 b) := by
  pointwise [k0_pay2]
/-- One update of the accuracy. -/
theorem pay3_apply (D X : Ideal .f32) : k0_pay3 (F := Ideal) D X = (X : EReal) + D := rfl

/-- A one-cell array has one index. -/
theorem s11 (j : S1x1.Idx) : j = ix2 0 0 := by
  idx_vars j
  obtain rfl : j0 = 0 := Subsingleton.elim _ _
  obtain rfl : j1 = 0 := Subsingleton.elim _ _
  rfl

/-- The first point starts the distances from zero; -/
theorem dis_A (c : Dev nD) (t : Fin cfg0.N) (h0 : t.val % 4 = 0) (h1 : ¬ t.val % 4 = 3) (b : Fin 22) :
    (outsAt0 m c t.val t.isLt).2.2.2.1 (rowRect.emb (ix2 0 b)) = (0 : EReal) + disAt m c t (ix1 b) := by
  rw [outsAt0_A m c t h0 h1 h1]; frame_out
  generalize hD : k0_pay41 (F := Ideal) _ _ _ _ _ _ _ _ _ _ = D
  have hD' : D = disAt m c t := hD.symm
  clear hD
  rw [View.canon_cons_emb, pay1_apply, hD', View.readCov_fill _ _ _ _ _ (by decide)]
  congr 1
  show k0_pay7 (F := Ideal) _ = _
  generalize rowRect.emb (ix2 0 b) = y
  idx_vars y
  pointwise [k0_pay7]

/-- every later point adds to them; -/
theorem dis_B (c : Dev nD) (t : Fin cfg0.N) (h0 : ¬ t.val % 4 = 0) (b : Fin 22) :
    (outsAt0 m c t.val t.isLt).2.2.2.1 (rowRect.emb (ix2 0 b)) =
      ((outsAt0 m c (t.val - 1) (Nat.lt_of_le_of_lt (Nat.sub_le _ _) t.isLt)).2.2.2.1 (rowRect.emb (ix2 0 b)) : EReal)
        + disAt m c t (ix1 b) := by
  by_cases h1 : t.val % 4 = 3
  · rw [outsAt0_C m c t h0 h1 h1]; frame_out
    generalize hD : k0_pay41 (F := Ideal) _ _ _ _ _ _ _ _ _ _ = D
    have hD' : D = disAt m c t := hD.symm
    clear hD
    rw [View.read_writes_cons_emb, pay1_apply, hD', read_unread_whole]
    rfl
  · rw [outsAt0_B m c t h0 h1 h1]; frame_out
    generalize hD : k0_pay41 (F := Ideal) _ _ _ _ _ _ _ _ _ _ = D
    have hD' : D = disAt m c t := hD.symm
    clear hD
    rw [View.read_writes_cons_emb, pay1_apply, hD', read_unread_whole]
    rfl

/-- the accuracies likewise, -/
theorem pck_A (c : Dev nD) (t : Fin cfg0.N) (h0 : t.val % 4 = 0) (h1 : ¬ t.val % 4 = 3) (b : Fin 22) :
    (outsAt0 m c t.val t.isLt).2.2.2.2.1 (rowRect.emb (ix2 0 b)) = (0 : EReal) + pckAt m c t (ix1 b) := by
  rw [outsAt0_A m c t h0 h1 h1]; frame_out
  generalize hD : k0_pay42 (F := Ideal) _ _ _ = D
  have hD' : D = pckAt m c t := hD.symm
  clear hD
  rw [View.canon_cons_emb, pay2_apply, hD', View.readCov_fill _ _ _ _ _ (by decide)]
  congr 1
  show k0_pay8 (F := Ideal) _ = _
  generalize rowRect.emb (ix2 0 b) = y
  idx_vars y
  pointwise [k0_pay8]

/-- point by point, -/
theorem pck_B (c : Dev nD) (t : Fin cfg0.N) (h0 : ¬ t.val % 4 = 0) (b : Fin 22) :
    (outsAt0 m c t.val t.isLt).2.2.2.2.1 (rowRect.emb (ix2 0 b)) =
      ((outsAt0 m c (t.val - 1) (Nat.lt_of_le_of_lt (Nat.sub_le _ _) t.isLt)).2.2.2.2.1 (rowRect.emb (ix2 0 b)) : EReal)
        + pckAt m c t (ix1 b) := by
  by_cases h1 : t.val % 4 = 3
  · rw [outsAt0_C m c t h0 h1 h1]; frame_out
    generalize hD : k0_pay42 (F := Ideal) _ _ _ = D
    have hD' : D = pckAt m c t := hD.symm
    clear hD
    rw [View.read_writes_cons_emb, pay2_apply, hD', read_unread_whole]
    rfl
  · rw [outsAt0_B m c t h0 h1 h1]; frame_out
    generalize hD : k0_pay42 (F := Ideal) _ _ _ = D
    have hD' : D = pckAt m c t := hD.symm
    clear hD
    rw [View.read_writes_cons_emb, pay2_apply, hD', read_unread_whole]
    rfl

/-- and the image accuracy, -/
theorem acc_A (c : Dev nD) (t : Fin cfg0.N) (h0 : t.val % 4 = 0) (h1 : ¬ t.val % 4 = 3) :
    (outsAt0 m c t.val t.isLt).2.2.2.2.2 (ix2 0 0) = (0 : EReal) + accAt m c t := by
  rw [outsAt0_A m c t h0 h1 h1]; frame_out
  generalize hD : k0_pay36 (F := Ideal) _ _ _ _ = D
  have hD' : D = accAt m c t := hD.symm
  rw [pay3_apply, hD']
  congr 1
  exact Ideal.ofBits_zero_f32

/-- point by point. -/
theorem acc_B (c : Dev nD) (t : Fin cfg0.N) (h0 : ¬ t.val % 4 = 0) :
    (outsAt0 m c t.val t.isLt).2.2.2.2.2 (ix2 0 0) =
      ((outsAt0 m c (t.val - 1) (Nat.lt_of_le_of_lt (Nat.sub_le _ _) t.isLt)).2.2.2.2.2 (ix2 0 0) : EReal) + accAt m c t := by
  by_cases h1 : t.val % 4 = 3
  · rw [outsAt0_C m c t h0 h1 h1]; frame_out
    generalize hD : k0_pay36 (F := Ideal) _ _ _ _ = D
    have hD' : D = accAt m c t := hD.symm
    rw [pay3_apply, hD', read_unread_whole]
    rw [s11 (Shape.Idx.first _)]
  · rw [outsAt0_B m c t h0 h1 h1]; frame_out
    generalize hD : k0_pay36 (F := Ideal) _ _ _ _ = D
    have hD' : D = accAt m c t := hD.symm
    rw [pay3_apply, hD', read_unread_whole]
    rw [s11 (Shape.Idx.first _)]

/-- After the last point the first accumulator holds the four images' distances, summed. -/
theorem dis_sum (c : Dev nD) (t : Fin cfg0.N) (ht : t.val + 1 = cfg0.N) (b : Fin 22) :
    (outsAt0 m c t.val t.isLt).2.2.2.1 (rowRect.emb (ix2 0 b)) = (0 : EReal) + ∑ p : Fin cfg0.N, (disAt m c p (ix1 b) : EReal) :=
  Pipeline.eq_sum_fin_of_reset_step_last (N := cfg0.N) (M := EReal)
    (fun n h => (outsAt0 m c n h).2.2.2.1 (rowRect.emb (ix2 0 b))) 4 0 (fun p => disAt m c p (ix1 b))
    (fun t h => dis_A m c t h (by omega) b) (fun t h => dis_B m c t h b) (by decide +kernel) t ht

/-- … the second their accuracies, … -/
theorem pck_sum (c : Dev nD) (t : Fin cfg0.N) (ht : t.val + 1 = cfg0.N) (b : Fin 22) :
    (outsAt0 m c t.val t.isLt).2.2.2.2.1 (rowRect.emb (ix2 0 b)) = (0 : EReal) + ∑ p : Fin cfg0.N, (pckAt m c p (ix1 b) : EReal) :=
  Pipeline.eq_sum_fin_of_reset_step_last (N := cfg0.N) (M := EReal)
    (fun n h => (outsAt0 m c n h).2.2.2.2.1 (rowRect.emb (ix2 0 b))) 4 0 (fun p => pckAt m c p (ix1 b))
    (fun t h => pck_A m c t h (by omega) b) (fun t h => pck_B m c t h b) (by decide +kernel) t ht

/-- … and the third the sum of the image accuracies. -/
theorem acc_sum (c : Dev nD) (t : Fin cfg0.N) (ht : t.val + 1 = cfg0.N) :
    (outsAt0 m c t.val t.isLt).2.2.2.2.2 (ix2 0 0) = (0 : EReal) + ∑ p : Fin cfg0.N, (accAt m c p : EReal) :=
  Pipeline.eq_sum_fin_of_reset_step_last (N := cfg0.N) (M := EReal)
    (fun n h => (outsAt0 m c n h).2.2.2.2.2 (ix2 0 0)) 4 0 (fun p => accAt m c p)
    (fun t h => acc_A m c t h (by omega)) (fun t h => acc_B m c t h) (by decide +kernel) t ht

/-- The four images' distances, summed, as the row the last point reads. -/
def disTot (c : Dev nD) : Vec Ideal S1x22 .f32 := fun j => (∑ p : Fin cfg0.N, (disAt m c p (ix1 (j 1)) : EReal) : EReal)
/-- The four images' accuracies, summed, likewise. -/
def pckTot (c : Dev nD) : Vec Ideal S1x22 .f32 := fun j => (∑ p : Fin cfg0.N, (pckAt m c p (ix1 (j 1)) : EReal) : EReal)

/-- The last of the four points. -/
theorem last_mod (t : Fin cfg0.N) (ht : t.val + 1 = cfg0.N) : t.val % 4 = 3 := by
  have hN : cfg0.N = 4 := by decide +kernel
  omega

/-- The last point writes the weighted mean over the summed rows. -/
theorem out7_last (c : Dev nD) (t : Fin cfg0.N) (ht : t.val + 1 = cfg0.N) (j : S1x1.Idx) :
    (outsAt0 m c t.val t.isLt).1 j = k0_pay5 (F := Ideal) (disTot m c) (pckTot m c) := by
  have h1 := last_mod t ht
  have h0 : ¬ t.val % 4 = 0 := by omega
  idx_vars j
  have hd := fun b => (dis_B m c t h0 b).symm.trans ((dis_sum m c t ht b).trans (zero_add _))
  have hp := fun b => (pck_B m c t h0 b).symm.trans ((pck_sum m c t ht b).trans (zero_add _))
  rw [outsAt0_C m c t h0 h1 h1]; frame_out
  generalize hD : k0_pay41 (F := Ideal) _ _ _ _ _ _ _ _ _ _ = D
  have hD' : D = disAt m c t := hD.symm
  clear hD
  generalize hP : k0_pay42 (F := Ideal) _ _ _ = P
  have hP' : P = pckAt m c t := hP.symm
  clear hP
  rw [View.readCov_cons_toLoadRect, View.readCov_cons_toLoadRect, read_unread_whole, read_unread_whole, hD', hP']
  congr 1
  · funext y
    idx_vars y
    obtain rfl : y0 = 0 := Subsingleton.elim _ _
    exact (pay1_apply _ _ _).trans (hd _)
  · funext y
    idx_vars y
    obtain rfl : y0 = 0 := Subsingleton.elim _ _
    exact (pay2_apply _ _ _).trans (hp _)

/-- It writes the mean of the image accuracies, … -/
theorem out8_last (c : Dev nD) (t : Fin cfg0.N) (ht : t.val + 1 = cfg0.N) (j : S1x1.Idx) :
    (outsAt0 m c t.val t.isLt).2.1 j = k0_pay6 (F := Ideal) (∑ p : Fin cfg0.N, (accAt m c p : EReal) : EReal) := by
  have h1 := last_mod t ht
  have h0 : ¬ t.val % 4 = 0 := by omega
  rw [s11 j]
  have hd := (acc_B m c t h0).symm.trans ((acc_sum m c t ht).trans (zero_add _))
  rw [outsAt0_C m c t h0 h1 h1]; frame_out
  generalize hD : k0_pay36 (F := Ideal) _ _ _ _ = D
  have hD' : D = accAt m c t := hD.symm
  clear hD
  rw [read_unread_whole, hD', s11 (Shape.Idx.first _), pay3_apply]
  exact congrArg (k0_pay6 (F := Ideal)) hd

/-- … and the mean of the last image's comparison. -/
theorem out9_last (c : Dev nD) (t : Fin cfg0.N) (ht : t.val + 1 = cfg0.N) (j : S1x1.Idx) :
    (outsAt0 m c t.val t.isLt).2.2.1 j = k0_pay4 (F := Ideal) (rowB (iblk m c 0 t) (iblk m c 1 t)) := by
  have h1 := last_mod t ht
  have h0 : ¬ t.val % 4 = 0 := by omega
  rw [s11 j, outsAt0_C m c t h0 h1 h1]; frame_out
  rfl

theorem t3_last : t0_3.val + 1 = cfg0.N := by decide +kernel

/-- The kernel's first result, … -/
theorem arr7 (c : Dev nD) : (dats m 0 c).arrAt 7 cfg0.N
    = fun _ => k0_pay5 (F := Ideal) (disTot m c) (pckTot m c) :=
  (dats m 0 c).arrAt_eq_of_after_last 7 t0_3 (by decide +kernel) _ fun j => by
    rw [after0_7]; exact out7_last m c t0_3 t3_last _
/-- … its second, … -/
theorem arr8 (c : Dev nD) : (dats m 0 c).arrAt 8 cfg0.N
    = fun _ => k0_pay6 (F := Ideal) (∑ p : Fin cfg0.N, (accAt m c p : EReal) : EReal) :=
  (dats m 0 c).arrAt_eq_of_after_last 8 t0_3 (by decide +kernel) _ fun j => by
    rw [after0_8]; exact out8_last m c t0_3 t3_last _
/-- … and its third. -/
theorem arr9 (c : Dev nD) : (dats m 0 c).arrAt 9 cfg0.N
    = fun _ => k0_pay4 (F := Ideal) (rowB (iblk m c 0 t0_3) (iblk m c 1 t0_3)) :=
  (dats m 0 c).arrAt_eq_of_after_last 9 t0_3 (by decide +kernel) _ fun j => by
    rw [after0_9]; exact out9_last m c t0_3 t3_last _

end Cert.KernelIdeal.Value
end
-- ==== Proof.Sort.lean ====
/- A stable sort of positions by a two-valued key, in terms of counting: the positions with the smaller key come first,
   in their own order, so the `i`-th output is the `i`-th position of that class. -/
module

public import Idealize.ShloMosaic.Lib.SortFacts
public import Idealize.ShloMosaic.Lib.SortPrefix
public import Mathlib.Data.Nat.Count

@[expose] public section

open Idealize.ShloMosaic

namespace Cert.Rank

/-- The `r`-th member of `p` below `n` exists when fewer than `r + 1` are not enough to fill the count. -/
theorem exists_of_lt_count (p : ℕ → Prop) [DecidablePred p] (n r : ℕ) (h : r < Nat.count p n) :
    ∃ s, s < n ∧ p s ∧ Nat.count p s = r := by
  induction n with
  | zero => simp at h
  | succ n ih =>
    rw [Nat.count_succ] at h
    by_cases hr : r < Nat.count p n
    · obtain ⟨s, hs, hp, hc⟩ := ih hr
      exact ⟨s, by omega, hp, hc⟩
    · by_cases hp : p n
      · rw [if_pos hp] at h
        exact ⟨n, by omega, hp, by omega⟩
      · rw [if_neg hp] at h
        omega

/-- The members of `p` and the others make up all positions. -/
theorem count_add_count_not (p : ℕ → Prop) [DecidablePred p] (n : ℕ) :
    Nat.count p n + Nat.count (fun s => ¬ p s) n = n := by
  induction n with
  | zero => simp
  | succ n ih =>
    rw [Nat.count_succ, Nat.count_succ]
    by_cases hp : p n
    · rw [if_pos hp, if_neg (not_not.mpr hp)]; omega
    · rw [if_neg hp, if_pos hp]; omega

/-- Two members of `p` with the same count before them are one. -/
theorem eq_of_count_eq (p : ℕ → Prop) [DecidablePred p] {s t : ℕ} (hs : p s) (ht : p t)
    (h : Nat.count p s = Nat.count p t) : s = t := Nat.count_injective hs ht h

open Classical in
/-- The `r`-th member of `p`, counted from zero (`0` where there is none). -/
noncomputable def nth (p : ℕ → Prop) [DecidablePred p] (r : ℕ) : ℕ :=
  if h : ∃ s, p s ∧ Nat.count p s = r then Nat.find h else 0

/-- A member of `p` is the one its count names. -/
theorem nth_count (p : ℕ → Prop) [DecidablePred p] {s : ℕ} (hs : p s) : nth p (Nat.count p s) = s := by
  have h : ∃ t, p t ∧ Nat.count p t = Nat.count p s := ⟨s, hs, rfl⟩
  unfold nth
  rw [dif_pos h]
  classical
  exact eq_of_count_eq p (Nat.find_spec h).1 hs (Nat.find_spec h).2

/-- The `r`-th member of `p`, with what places it. -/
theorem nth_spec (p : ℕ → Prop) [DecidablePred p] (n r : ℕ) (h : r < Nat.count p n) :
    nth p r < n ∧ p (nth p r) ∧ Nat.count p (nth p r) = r := by
  obtain ⟨s, hs, hp, hc⟩ := exists_of_lt_count p n r h
  have : nth p r = s := by rw [← hc]; exact nth_count p hp
  rw [this]
  exact ⟨hs, hp, hc⟩

/-- The sort takes its elements from the last to the first, so it compares an element only with later ones. -/
theorem stableSort_eq_of_later {n : ℕ} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b (hl.1 b ?_)
    exact (perm_stableSort R' l).mem_iff.mp hb

/-- Sorting by a key alone is sorting by the key and then by the position. -/
theorem sortedFrom_eq_of_later {n : ℕ} (R R' : Fin n → Fin n → Bool) (h : ∀ a b, a < b → R b a = R' b a) :
    sortedFrom R = sortedFrom R' := by
  have e : sortPositions n R = sortPositions n R' := stableSort_eq_of_later R R' h _ (List.pairwise_lt_finRange n)
  funext k
  unfold sortedFrom
  rw [List.get_of_eq e]
  rfl

/-- A sort that puts the members of `p` first puts the `i`-th member at position `i`. -/
theorem sortedFrom_nth {n : ℕ} (p : ℕ → Prop) [DecidablePred p] (R : Fin n → Fin n → Bool)
    (hR : ∀ a b : Fin n, R a b = (decide (p a.val) && !decide (p b.val))) (i : Fin n) (hi : i.val < Nat.count p n) :
    (sortedFrom R i).val = nth p i.val := by
  have hB : StrictTotalBefore fun k k' : Fin n => (fun a b : Bool => a && !b) (decide (p k.val)) (decide (p k'.val))
      || (decide (decide (p k.val) = decide (p k'.val)) && decide (k < k')) :=
    StrictTotalBefore.of_key_then_position (fun a b : Bool => a && !b) (fun k : Fin n => decide (p k.val))
      (by decide) (by decide) (by decide)
  have hk : Nat.count p n ≤ n := Nat.count_le p
  have e : sortedFrom R = sortedFrom (fun k k' : Fin n => (fun a b : Bool => a && !b) (decide (p k.val)) (decide (p k'.val))
      || (decide (decide (p k.val) = decide (p k'.val)) && decide (k < k'))) := by
    refine sortedFrom_eq_of_later _ _ fun a b hab => ?_
    have : ¬ b < a := not_lt.mpr hab.le
    simp [hR, this]
  have key := hB.sortedFrom_eq_of_prefix hk (fun j => ⟨nth p j.val, (nth_spec p n j.val j.isLt).1⟩)
    (fun a b hab => by
      have h1 := (nth_spec p n a.val a.isLt).2.2
      have h2 := (nth_spec p n b.val b.isLt).2.2
      have h3 : nth p a.val = nth p b.val := congrArg Fin.val hab
      rw [h3] at h1
      exact Fin.ext (h1.symm.trans h2))
    (fun a b hab => by
      obtain ⟨_, p1, c1⟩ := nth_spec p n a.val a.isLt
      obtain ⟨_, p2, c2⟩ := nth_spec p n b.val b.isLt
      have : ¬ nth p b.val < nth p a.val := fun h => by
        have := Nat.count_monotone p h.le
        rw [c1, c2] at this
        have hab' : a.val < b.val := hab
        omega
      simp [p1, p2, this])
    (fun a q hq => by
      obtain ⟨_, p1, c1⟩ := nth_spec p n a.val a.isLt
      have hq' : ¬ p q.val := fun hp => by
        have hlt : Nat.count p q.val < Nat.count p n := by
          have := Nat.count_monotone p (Nat.succ_le_of_lt q.isLt)
          rw [Nat.count_succ, if_pos hp] at this
          omega
        exact hq ⟨_, hlt⟩ (Fin.ext (nth_count p hp))
      simp [p1, hq'])
    ⟨i.val, hi⟩
  rw [e]
  exact congrArg Fin.val key

end Cert.Rank
-- ==== Proof.Count.lean ====
/- The kernel's running count of ones: twelve doubling steps, each adding the row shifted to the right. -/
module

public import proofs.«01_k».proof.Proof.Block
public import proofs.«01_k».proof.Proof.Sort

@[expose] public section

set_option maxRecDepth 16384

noncomputable section

open Idealize.ShloMosaic Idealize.ShloMosaic.TcCoe

namespace Cert.KernelIdeal.Value
open Cert.KernelIdeal Cert.KernelIdeal.Gen

/-- A row plus itself shifted right by `w` places, zeros coming in. -/
def addShift (w r : ℕ) (hs : (⟨2, ![16, 4096]⟩ : Shape).Slices ![0, 0] ⟨2, ![16, r]⟩)
    (hc : Shape.Concatenates [(⟨2, ![16, w]⟩ : Shape), ⟨2, ![16, r]⟩] S16x4096 1) (v : FVec Ideal S16x4096 .f32) : FVec Ideal S16x4096 .f32 :=
  addf v (concatenate S16x4096 1 [⟨⟨2, ![16, w]⟩, broadcast ⟨2, ![16, w]⟩ (Scalar.ofBits .f32 0x00000000#32)⟩,
    ⟨⟨2, ![16, r]⟩, extractStridedSlice ⟨2, ![16, r]⟩ ![0, 0] v hs⟩] hc)

/-- At a place, that sum. -/
theorem addShift_apply (w r : ℕ) (hs) (hc) (v : FVec Ideal S16x4096 .f32) (i : Fin 16) (s : Fin 4096) :
    addShift w r hs hc v (ix2 i s) = (v (ix2 i s) : EReal) + if h : s.val < w then 0 else v (ix2 i ⟨s.val - w, by omega⟩) := by
  pointwise [addShift]
  by_cases h : s.val < w
  · simp only [dif_pos h]
  · simp only [dif_neg h]; rfl

/-- A row holds, at each place, how many of the last `w` places up to it are in `p`. -/
def Window (p : ℕ → Prop) [DecidablePred p] (w : ℕ) (i : Fin 16) (v : FVec Ideal S16x4096 .f32) : Prop :=
  ∀ s : Fin 4096, v (ix2 i s) = (((Nat.count p (s.val + 1) - Nat.count p (s.val + 1 - w) : ℕ)) : EReal)

/-- The bits themselves count the last place. -/
theorem window_one (p : ℕ → Prop) [DecidablePred p] (v : FVec Ideal S16x4096 .f32) (i : Fin 16)
    (hb : ∀ s : Fin 4096, v (ix2 i s) = if p s.val then (1 : EReal) else 0) : Window p 1 i v := by
  intro s
  rw [hb s, Nat.add_sub_cancel, Nat.count_succ]
  by_cases hp : p s.val
  · rw [if_pos hp, if_pos hp, Nat.add_sub_cancel_left, Nat.cast_one]
  · rw [if_neg hp, if_neg hp, Nat.add_zero, Nat.sub_self, Nat.cast_zero]

/-- Adding the row shifted by the window's width doubles the window. -/
theorem window_step (p : ℕ → Prop) [DecidablePred p] (w : ℕ) {r : ℕ} {hs} {hc} (i : Fin 16) (v : FVec Ideal S16x4096 .f32)
    (h : Window p w i v) : Window p (w + w) i (addShift w r hs hc v) := by
  intro s
  rw [addShift_apply, h s]
  by_cases hw : s.val < w
  · rw [dif_pos hw, add_zero, show s.val + 1 - w = 0 by omega, show s.val + 1 - (w + w) = 0 by omega]
  · rw [dif_neg hw, h]
    have m1 := Nat.count_monotone p (show s.val + 1 - w ≤ s.val + 1 by omega)
    have m2 := Nat.count_monotone p (show s.val + 1 - (w + w) ≤ s.val + 1 - w by omega)
    have e1 : s.val - w + 1 = s.val + 1 - w := by omega
    have e2 : s.val - w + 1 - w = s.val + 1 - (w + w) := by omega
    show ((_ : ℕ) : EReal) + ((Nat.count p (s.val - w + 1) - Nat.count p (s.val - w + 1 - w) : ℕ) : EReal) = _
    rw [e2, e1, ← Nat.cast_add]
    congr 1
    omega

/-- The twelve doubling steps. -/
def countB (x1 : BitBlk) : FVec Ideal S16x4096 .f32 :=
    addShift 2048 2048 slices_S16x4096_o0_0_S16x2048 concatenates_S16x2048_S16x2048_S16x4096_d1 <|
    addShift 1024 3072 slices_S16x4096_o0_0_S16x3072 concatenates_S16x1024_S16x3072_S16x4096_d1 <|
    addShift 512 3584 slices_S16x4096_o0_0_S16x3584 concatenates_S16x512_S16x3584_S16x4096_d1 <|
    addShift 256 3840 slices_S16x4096_o0_0_S16x3840 concatenates_S16x256_S16x3840_S16x4096_d1 <|
    addShift 128 3968 slices_S16x4096_o0_0_S16x3968 concatenates_S16x128_S16x3968_S16x4096_d1 <|
    addShift 64 4032 slices_S16x4096_o0_0_S16x4032 concatenates_S16x64_S16x4032_S16x4096_d1 <|
    addShift 32 4064 slices_S16x4096_o0_0_S16x4064 concatenates_S16x32_S16x4064_S16x4096_d1 <|
    addShift 16 4080 slices_S16x4096_o0_0_S16x4080 concatenates_S16x16_S16x4080_S16x4096_d1 <|
    addShift 8 4088 slices_S16x4096_o0_0_S16x4088 concatenates_S16x8_S16x4088_S16x4096_d1 <|
    addShift 4 4092 slices_S16x4096_o0_0_S16x4092 concatenates_S16x4_S16x4092_S16x4096_d1 <|
    addShift 2 4094 slices_S16x4096_o0_0_S16x4094 concatenates_S16x2_S16x4094_S16x4096_d1 <|
    addShift 1 4095 slices_S16x4096_o0_0_S16x4095 concatenates_S16x1_S16x4095_S16x4096_d1 <|
    k0_pay11 (F := Ideal) x1

/-- After them every place counts all the places up to it. -/
theorem countB_window (p : ℕ → Prop) [DecidablePred p] (x1 : BitBlk) (i : Fin 16)
    (hb : ∀ s : Fin 4096, k0_pay11 (F := Ideal) x1 (ix2 i s) = if p s.val then (1 : EReal) else 0) :
    Window p 4096 i (countB x1) :=
  window_step p 2048 i _ <|
    window_step p 1024 i _ <|
    window_step p 512 i _ <|
    window_step p 256 i _ <|
    window_step p 128 i _ <|
    window_step p 64 i _ <|
    window_step p 32 i _ <|
    window_step p 16 i _ <|
    window_step p 8 i _ <|
    window_step p 4 i _ <|
    window_step p 2 i _ <|
    window_step p 1 i _ <|
    window_one p _ i hb

/-- The kernel's count, as the doubling steps. -/
theorem exclB_eq (x1 : BitBlk) : exclB x1 = fptosi 32 (subf (countB x1) (k0_pay11 (F := Ideal) x1)) := rfl

/-- A count below `4096`, converted to an integer, is itself. -/
theorem fptosi_nat (n : ℕ) (hn : n < 4096) : Ideal.fptosi 32 ((n : ℕ) : EReal) = BitVec.ofNat 32 n := by
  have e : ((n : ℕ) : EReal) = ((n : ℝ) : EReal) := by simp
  rw [e]
  unfold Ideal.fptosi
  rw [Ideal.toIntClamped_coe, if_pos (Nat.cast_nonneg n), Int.floor_natCast, min_eq_right (by norm_num; omega),
    max_eq_right (by norm_num)]
  exact BitVec.ofInt_natCast 32 n

/-- How many ones precede a place, as the kernel counts them. -/
theorem exclB_apply (p : ℕ → Prop) [DecidablePred p] (x1 : BitBlk) (i : Fin 16)
    (hb : ∀ s : Fin 4096, k0_pay11 (F := Ideal) x1 (ix2 i s) = if p s.val then (1 : EReal) else 0) (s : Fin 4096) :
    exclB x1 (ix2 i s) = BitVec.ofNat 32 (Nat.count p s.val) := by
  have hW := countB_window p x1 i hb
  rw [exclB_eq]
  have hle : Nat.count p s.val ≤ s.val := Nat.count_le p
  have hs := s.isLt
  rw [← fptosi_nat _ (lt_of_le_of_lt hle hs)]
  show Ideal.fptosi 32 (_ - _ : EReal) = _
  congr 1
  rw [hb s]
  refine (congrArg (· - (if p s.val then (1 : EReal) else 0)) (hW s)).trans ?_
  rw [show s.val + 1 - 4096 = 0 by omega, Nat.count_zero, Nat.sub_zero, Nat.count_succ]
  show ((Nat.count p s.val + (if p s.val then 1 else 0) : ℕ) : EReal) - _ = _
  by_cases hp : p s.val
  · rw [if_pos hp, if_pos hp]
    have e : ∀ n : ℕ, ((n : ℕ) : EReal) = ((n : ℝ) : EReal) := fun n => by simp
    rw [e, e, ← EReal.coe_one, ← EReal.coe_sub]
    congr 1
    push_cast
    ring
  · rw [if_neg hp, if_neg hp, Nat.add_zero, sub_zero]

end Cert.KernelIdeal.Value
end
-- ==== Proof.Select.lean ====
/- The kernel's two gathers: the positive predictions by an equality table, the negative ones by nine shifted copies. -/
module

public import proofs.«01_k».proof.Proof.Count

@[expose] public section

set_option maxRecDepth 16384

noncomputable section

open Idealize.ShloMosaic Idealize.ShloMosaic.TcCoe

namespace Cert.KernelIdeal.Value
open Cert.KernelIdeal Cert.KernelIdeal.Gen

/-- The row's bits are the members of `p`. -/
def Bits (p : ℕ → Prop) [DecidablePred p] (x1 : BitBlk) (i : Fin 16) : Prop :=
  ∀ s : Fin 4096, k0_pay11 (F := Ideal) x1 (ix2 i s) = if p s.val then (1 : EReal) else 0

/-- A half, as a number. -/
theorem ofBits_half : Ideal.ofBits .f32 0x3F000000#32 = (((1 : ℝ) / 2 : ℝ) : EReal) := by
  simp [Ideal.ofBits, Ideal.ieee, -EReal.coe_mul]; norm_num

/-- A bit is a one where it exceeds a half. -/
theorem half_lt_bit (q : Prop) [Decidable q] :
    (Ideal.ofBits .f32 0x3F000000#32 < if q then (1 : EReal) else 0) ↔ q := by
  rw [ofBits_half]
  by_cases h : q
  · rw [if_pos h]
    exact iff_of_true (by rw [← EReal.coe_one]; exact EReal.coe_lt_coe_iff.mpr (by norm_num)) h
  · rw [if_neg h]
    exact iff_of_false (not_lt.mpr (by rw [← EReal.coe_zero]; exact EReal.coe_le_coe_iff.mpr (by norm_num))) h

/-- Two small counts are equal as words only where they are equal. -/
theorem cmpi_count (a b : ℕ) (ha : a < 4096) (hb : b < 4096) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The 8 positives: column `r` is the row's prediction at its `r`-th one. -/
theorem posB_apply (p : ℕ → Prop) [DecidablePred p] (x0 : PredBlk) (x1 : BitBlk) (i : Fin 16) (hb : Bits p x1 i)
    (s : Fin 4096) (hp : p s.val) (r : Fin 8) (hr : Nat.count p s.val = r.val) :
    posB x0 x1 (ix2 i r) = k0_pay10 (F := Ideal) x0 (ix2 i s) := by
  have hE := exclB_apply p x1 i hb
  rw [show posB x0 x1 = k0_pay17 (F := Ideal) (k0_pay10 x0) (k0_pay11 x1) (k0_pay12 x1) k0_pay13 (k0_pay14 x1) from rfl]
  unfold k0_pay17
  rw [show k0_pay15 (F := Ideal) (k0_pay11 x1) (k0_pay12 x1) k0_pay13 (k0_pay14 x1) = exclB x1 from rfl]
  unfold Bits at hb
  generalize k0_pay11 (F := Ideal) x1 = B at hb ⊢
  generalize k0_pay10 (F := Ideal) x0 = P
  generalize exclB x1 = E at hE ⊢
  pointwise [k0_pay16]
  rw [Finset.sum_eq_single s]
  · rw [hE, hr, hb, cmpi_count _ _ (by omega) (by omega), decide_eq_true rfl, if_pos ((half_lt_bit _).mpr hp)]
    rfl
  · intro t _ hts
    rw [hE, hb, cmpi_count _ _ (lt_of_le_of_lt (Nat.count_le p) t.isLt) (by omega)]
    by_cases hpt : p t.val
    · rw [decide_eq_false (fun h => hts (Fin.ext (Rank.eq_of_count_eq p hpt hp (h.trans hr.symm))))]
      rfl
    · rw [if_neg (fun h => hpt ((half_lt_bit _).mp h))]
      cases decide (Nat.count p t.val = r.val) <;> rfl
  · intro h; exact absurd (Finset.mem_univ _) h

/-- The first placement: the predictions at zeros with no one before them stay where they are. -/
def place0 (E : IVec S16x4096 32) (M : IVec S16x4096 1) (P : FVec Ideal S16x4096 .f32) : FVec Ideal S16x4096 .f32 :=
  addf (broadcast S16x4096 (Scalar.ofBits .f32 0x00000000#32))
    (select (andi (xori M (constantI S16x4096 1 1#1)) (cmpi .eq E (broadcast S16x4096 0#32))) P
      (broadcast S16x4096 (Scalar.ofBits .f32 0x00000000#32)))

/-- A further placement: the predictions at zeros with `k` ones before them move left by `k`. -/
def place (k r : ℕ) (hs : (⟨2, ![16, 4096]⟩ : Shape).Slices ![0, k] ⟨2, ![16, r]⟩)
    (hc : Shape.Concatenates [(⟨2, ![16, r]⟩ : Shape), ⟨2, ![16, k]⟩] S16x4096 1)
    (E : IVec S16x4096 32) (M : IVec S16x4096 1) (P v : FVec Ideal S16x4096 .f32) : FVec Ideal S16x4096 .f32 :=
  addf v (concatenate S16x4096 1 [⟨⟨2, ![16, r]⟩, extractStridedSlice ⟨2, ![16, r]⟩ ![0, k]
    (select (andi (xori M (constantI S16x4096 1 1#1)) (cmpi .eq E (broadcast S16x4096 (BitVec.ofNat 32 k)))) P
      (broadcast S16x4096 (Scalar.ofBits .f32 0x00000000#32))) hs⟩,
    ⟨⟨2, ![16, k]⟩, broadcast ⟨2, ![16, k]⟩ (Scalar.ofBits .f32 0x00000000#32)⟩] hc)

/-- The kernel's negatives are the nine placements. -/
theorem negB_eq (x0 : PredBlk) (x1 : BitBlk) : negB x0 x1 =
    (place 8 4088 slices_S16x4096_o0_8_S16x4088 concatenates_S16x4088_S16x8_S16x4096_d1 (exclB x1) (k0_pay16 (F := Ideal) (k0_pay11 x1)) (k0_pay10 x0) <|
    place 7 4089 slices_S16x4096_o0_7_S16x4089 concatenates_S16x4089_S16x7_S16x4096_d1 (exclB x1) (k0_pay16 (F := Ideal) (k0_pay11 x1)) (k0_pay10 x0) <|
    place 6 4090 slices_S16x4096_o0_6_S16x4090 concatenates_S16x4090_S16x6_S16x4096_d1 (exclB x1) (k0_pay16 (F := Ideal) (k0_pay11 x1)) (k0_pay10 x0) <|
    place 5 4091 slices_S16x4096_o0_5_S16x4091 concatenates_S16x4091_S16x5_S16x4096_d1 (exclB x1) (k0_pay16 (F := Ideal) (k0_pay11 x1)) (k0_pay10 x0) <|
    place 4 4092 slices_S16x4096_o0_4_S16x4092 concatenates_S16x4092_S16x4_S16x4096_d1 (exclB x1) (k0_pay16 (F := Ideal) (k0_pay11 x1)) (k0_pay10 x0) <|
    place 3 4093 slices_S16x4096_o0_3_S16x4093 concatenates_S16x4093_S16x3_S16x4096_d1 (exclB x1) (k0_pay16 (F := Ideal) (k0_pay11 x1)) (k0_pay10 x0) <|
    place 2 4094 slices_S16x4096_o0_2_S16x4094 concatenates_S16x4094_S16x2_S16x4096_d1 (exclB x1) (k0_pay16 (F := Ideal) (k0_pay11 x1)) (k0_pay10 x0) <|
    place 1 4095 slices_S16x4096_o0_1_S16x4095 concatenates_S16x4095_S16x1_S16x4096_d1 (exclB x1) (k0_pay16 (F := Ideal) (k0_pay11 x1)) (k0_pay10 x0) <|
    place0 (exclB x1) (k0_pay16 (F := Ideal) (k0_pay11 x1)) (k0_pay10 x0)) := rfl

/-- What a placement takes from place `s`: the prediction there if it is a zero with `k` ones before it. -/
def cell (E : IVec S16x4096 32) (M : IVec S16x4096 1) (P : FVec Ideal S16x4096 .f32) (i : Fin 16) (k : ℕ) (s : Fin 4096) : EReal :=
  Scalar.select (IntOp.andi (IntOp.xori (M (ix2 i s)) 1#1) (IntOp.cmpi .eq (E (ix2 i s)) (BitVec.ofNat 32 k))) (P (ix2 i s)) 0

/-- The first placement, at a place; -/
theorem place0_apply (E : IVec S16x4096 32) (M : IVec S16x4096 1) (P : FVec Ideal S16x4096 .f32) (i : Fin 16) (c : Fin 4096) :
    place0 E M P (ix2 i c) = cell E M P i 0 c := by
  pointwise [place0]
  rfl

/-- a further one. -/
theorem place_apply (k r : ℕ) (hs) (hc) (hkr : k + r = 4096) (E : IVec S16x4096 32) (M : IVec S16x4096 1)
    (P v : FVec Ideal S16x4096 .f32) (i : Fin 16) (c : Fin 4096) :
    place k r hs hc E M P v (ix2 i c)
      = (v (ix2 i c) : EReal) + if h : k + c.val < 4096 then cell E M P i k ⟨k + c.val, h⟩ else 0 := by
  pointwise [place]
  by_cases h : c.val < r
  · have h' : k + c.val < 4096 := by omega
    simp only [dif_pos h, dif_pos h']; rfl
  · have h' : ¬ k + c.val < 4096 := by omega
    simp only [dif_neg h, dif_neg h']

/-- The `k`-th placement brings to column `c` the one prediction that belongs there, or nothing. -/
theorem cell_eq (p : ℕ → Prop) [DecidablePred p] (x0 : PredBlk) (x1 : BitBlk) (i : Fin 16) (hb : Bits p x1 i)
    (s : Fin 4096) (hp : ¬ p s.val) (c : Fin 4096) (hc : Nat.count p s.val + c.val = s.val) (k : ℕ) (hk : k < 4096) :
    (if h : k + c.val < 4096 then
        cell (exclB x1) (k0_pay16 (F := Ideal) (k0_pay11 x1)) (k0_pay10 (F := Ideal) x0) i k ⟨k + c.val, h⟩ else 0)
      = if k = Nat.count p s.val then (k0_pay10 (F := Ideal) x0 (ix2 i s) : EReal) else 0 := by
  have hE := exclB_apply p x1 i hb
  have hM : ∀ t : Fin 4096, k0_pay16 (F := Ideal) (k0_pay11 x1) (ix2 i t) = BitVec.ofBool (decide (p t.val)) := by
    intro t
    have := hb t
    unfold Bits at hb
    generalize k0_pay11 (F := Ideal) x1 = B at this ⊢
    show BitVec.ofBool (decide (Ideal.ofBits .f32 0x3F000000#32 < B (ix2 i t))) = _
    rw [this]
    congr 1
    exact decide_eq_decide.mpr (half_lt_bit _)
  by_cases h : k + c.val < 4096
  · rw [dif_pos h]
    unfold cell
    rw [hE, hM, cmpi_count _ _ (lt_of_le_of_lt (Nat.count_le p) h) hk]
    by_cases hq : p (k + c.val)
    · have hne : ¬ k = Nat.count p s.val := fun e => by
        rw [e, hc] at hq
        exact hp hq
      rw [if_neg hne]
      simp only [hq, decide_true]
      cases decide (Nat.count p (k + c.val) = k) <;> rfl
    · simp only [hq, decide_false]
      by_cases hk' : k = Nat.count p s.val
      · have hs : (⟨k + c.val, h⟩ : Fin 4096) = s := Fin.ext (by show k + c.val = s.val; omega)
        have hs' : k + c.val = s.val := congrArg Fin.val hs
        rw [if_pos hk', hs, hs', ← hk', decide_eq_true rfl]
        rfl
      · rw [if_neg hk']
        have hne : ¬ Nat.count p (k + c.val) = k := fun e => by
          have h1 := Rank.count_add_count_not p (k + c.val)
          have h2 := Rank.count_add_count_not p s.val
          have : k + c.val = s.val := Rank.eq_of_count_eq (fun s => ¬ p s) hq hp (by omega)
          omega
        rw [decide_eq_false hne]
        rfl
  · rw [dif_neg h, if_neg]
    intro e
    omega

/-- The 4088 negatives: column `c` is the row's prediction at its `c`-th zero. -/
theorem negB_apply (p : ℕ → Prop) [DecidablePred p] (x0 : PredBlk) (x1 : BitBlk) (i : Fin 16) (hb : Bits p x1 i)
    (h8 : Nat.count p 4096 ≤ 8) (s : Fin 4096) (hp : ¬ p s.val) (c : Fin 4096) (hc : Nat.count p s.val + c.val = s.val) :
    negB x0 x1 (ix2 i c) = k0_pay10 (F := Ideal) x0 (ix2 i s) := by
  have hK : Nat.count p s.val ≤ 8 := (Nat.count_monotone p s.isLt.le).trans h8
  have h0 := cell_eq p x0 x1 i hb s hp c hc 0 (by norm_num)
  rw [dif_pos (by omega : 0 + c.val < 4096)] at h0
  have e0 : (⟨0 + c.val, by omega⟩ : Fin 4096) = c := Fin.ext (Nat.zero_add _)
  rw [e0] at h0
  rw [negB_eq]
  simp only [place_apply _ _ _ _ (by norm_num : 1 + 4095 = 4096), place_apply _ _ _ _ (by norm_num : 2 + 4094 = 4096),
    place_apply _ _ _ _ (by norm_num : 3 + 4093 = 4096), place_apply _ _ _ _ (by norm_num : 4 + 4092 = 4096),
    place_apply _ _ _ _ (by norm_num : 5 + 4091 = 4096), place_apply _ _ _ _ (by norm_num : 6 + 4090 = 4096),
    place_apply _ _ _ _ (by norm_num : 7 + 4089 = 4096), place_apply _ _ _ _ (by norm_num : 8 + 4088 = 4096), place0_apply,
    h0, cell_eq p x0 x1 i hb s hp c hc _ (by norm_num : 1 < 4096), cell_eq p x0 x1 i hb s hp c hc _ (by norm_num : 2 < 4096),
    cell_eq p x0 x1 i hb s hp c hc _ (by norm_num : 3 < 4096), cell_eq p x0 x1 i hb s hp c hc _ (by norm_num : 4 < 4096),
    cell_eq p x0 x1 i hb s hp c hc _ (by norm_num : 5 < 4096), cell_eq p x0 x1 i hb s hp c hc _ (by norm_num : 6 < 4096),
    cell_eq p x0 x1 i hb s hp c hc _ (by norm_num : 7 < 4096), cell_eq p x0 x1 i hb s hp c hc _ (by norm_num : 8 < 4096)]
  generalize k0_pay10 (F := Ideal) x0 (ix2 i s) = X
  generalize Nat.count p s.val = K at hK
  interval_cases K <;> simp

end Cert.KernelIdeal.Value
end
-- ==== Proof.Scalar.lean ====
/- One comparison of two predictions, over the extended reals: the kernel takes the hyperbolic tangent of half the
   difference, the reference the sigmoid of the difference, doubled and lowered by one. Both are the same real number. -/
module

public import Idealize.ShloMosaic.Lib.Pointwise
public import Idealize.ShloMosaic.Lib.IdealHost
public import Mathlib.Analysis.SpecialFunctions.Exp
public import Mathlib.Analysis.SpecialFunctions.Trigonometric.DerivHyp

@[expose] public section

noncomputable section

open Idealize.ShloMosaic

namespace Cert.Scalar

/-- The comparison of a difference: the tangent of its half, the infinite differences at the ends. -/
def cmpR : EReal → ℝ
  | ⊥ => -1
  | ⊤ => 1
  | (r : ℝ) => Real.tanh (r / 2)

@[simp] theorem cmpR_bot : cmpR ⊥ = -1 := rfl
@[simp] theorem cmpR_top : cmpR ⊤ = 1 := rfl
@[simp] theorem cmpR_coe (r : ℝ) : cmpR (r : EReal) = Real.tanh (r / 2) := rfl

theorem ofBits_half : Ideal.ofBits .f32 0x3F000000#32 = (((1 : ℝ) / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem ofBits_size : Ideal.ofBits .f32 0x48FF8000#32 = ((523264 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_top : Ideal.ofBits .f32 0x7F800000#32 = (⊤ : EReal) := by
  simp [Ideal.ofBits, Ideal.ieee]
theorem ofBits_bot : Ideal.ofBits .f32 0xFF800000#32 = (⊥ : EReal) := by
  simp [Ideal.ofBits, Ideal.ieee]

/-- The kernel's form of the comparison. -/
theorem tanh_eq (x : EReal) : Ideal.tanh (x * (((1 : ℝ) / 2 : ℝ) : EReal)) = (cmpR x : EReal) := by
  induction x with
  | bot => rw [EReal.bot_mul_coe_of_pos (by norm_num)]; simp
  | top => rw [EReal.top_mul_coe_of_pos (by norm_num)]; simp
  | coe r => rw [← EReal.coe_mul, Ideal.tanh_coe, cmpR_coe]; congr 2; ring

/-- The tangent of the half is the sigmoid, doubled and lowered. -/
theorem tanh_half (r : ℝ) : Real.tanh (r / 2) = (1 + Real.exp (-r))⁻¹ * 2 - 1 := by
  have h1 : Real.exp (-r) = Real.exp (-(r / 2)) * Real.exp (-(r / 2)) := by rw [← Real.exp_add]; congr 1; ring
  have h2 : Real.exp (r / 2) * Real.exp (-(r / 2)) = 1 := by rw [← Real.exp_add]; simp
  have hp := Real.exp_pos (r / 2)
  have hn := Real.exp_pos (-(r / 2))
  rw [Real.tanh_eq_sinh_div_cosh, Real.sinh_eq, Real.cosh_eq, h1]
  generalize Real.exp (r / 2) = a at *
  generalize Real.exp (-(r / 2)) = b at *
  have hb : b = a⁻¹ := eq_inv_of_mul_eq_one_right h2
  subst hb
  have : a + a⁻¹ ≠ 0 := by positivity
  have : 1 + a⁻¹ * a⁻¹ ≠ 0 := by positivity
  field_simp
  ring

/-- The reference's form of the comparison. -/
theorem sigmoid_eq (x : EReal) :
    Ideal.logistic x * ((2 : ℝ) : EReal) - ((1 : ℝ) : EReal) = (cmpR x : EReal) := by
  induction x with
  | bot => rw [Ideal.logistic_bot, zero_mul, cmpR_bot, ← EReal.coe_zero, ← EReal.coe_sub]; norm_num
  | top => rw [Ideal.logistic_top, one_mul, cmpR_top, ← EReal.coe_sub]; norm_num
  | coe r => rw [Ideal.logistic_coe, ← EReal.coe_mul, ← EReal.coe_sub, cmpR_coe, tanh_half]

/-- The tangent is positive where its argument is. -/
theorem tanh_pos_iff (r : ℝ) : 0 < Real.tanh r ↔ 0 < r := by
  rw [Real.tanh_eq_sinh_div_cosh, div_pos_iff_of_pos_right (Real.cosh_pos r), Real.sinh_pos_iff]

/-- The sigmoid exceeds a half where the comparison is positive. -/
theorem half_lt_sigmoid (x : EReal) : (((1 : ℝ) / 2 : ℝ) : EReal) < Ideal.logistic x ↔ 0 < cmpR x := by
  have h : ∀ s : ℝ, (((1 : ℝ) / 2 : ℝ) : EReal) < (s : EReal) ↔ 0 < s * 2 - 1 := by
    intro s; rw [EReal.coe_lt_coe_iff]; constructor <;> intro h <;> linarith
  induction x with
  | bot => rw [Ideal.logistic_bot, ← EReal.coe_zero, h, cmpR_bot]; norm_num
  | top => rw [Ideal.logistic_top, ← EReal.coe_one, h, cmpR_top]; norm_num
  | coe r => rw [Ideal.logistic_coe, h, cmpR_coe, tanh_half]

/-- The comparison is positive where the first prediction is larger. -/
theorem cmpR_sub_pos (a b : EReal) : 0 < cmpR (a - b) ↔ b < a := by
  have n : ¬(0 : ℝ) < -1 := by norm_num
  induction a with
  | bot => rw [show (⊥ : EReal) - b = ⊥ from EReal.bot_sub b, cmpR_bot]; simp
  | top =>
    induction b with
    | bot => simp
    | top => simp
    | coe r => simp
  | coe q =>
    induction b with
    | bot => simp
    | top => simp
    | coe r => rw [← EReal.coe_sub, cmpR_coe, tanh_pos_iff, EReal.coe_lt_coe_iff]; constructor <;> intro h <;> linarith

/-- The sign of a comparison: one where it is positive, minus one elsewhere. -/
def sgn (u : ℝ) : ℝ := if 0 < u then 1 else -1

theorem sgn_mul (u : ℝ) : u * sgn u = |u| := by
  unfold sgn
  split_ifs with h
  · rw [abs_of_pos h, mul_one]
  · rw [abs_of_nonpos (not_lt.mp h)]; ring

theorem sgn_sq (u : ℝ) : sgn u * sgn u = 1 := by
  unfold sgn; split_ifs <;> norm_num

theorem coe_max (a b : ℝ) : ((max a b : ℝ) : EReal) = max (a : EReal) (b : EReal) :=
  EReal.coe_strictMono.monotone.map_max

theorem abs_coe (u : ℝ) : max (u : EReal) (-(u : EReal)) = ((|u| : ℝ) : EReal) := by
  rw [← EReal.coe_neg, ← coe_max]; rfl

theorem max_coe_zero (u : ℝ) : max (u : EReal) 0 = ((max u 0 : ℝ) : EReal) := by
  rw [← EReal.coe_zero, ← coe_max]

/-- A finite sum of real numbers, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

end Cert.Scalar
end
-- ==== Proof.Dist.lean ====
/- Squared distances between a comparison box and a box of signs, over the reals: the expansions the kernel uses. -/
module

public import proofs.«01_k».proof.Proof.Scalar

@[expose] public section

noncomputable section

namespace Cert.Scalar

/-- A box of comparisons: rows, positives, negatives. -/
abbrev Box := Fin 16 → Fin 8 → Fin 4088 → ℝ

/-- The squared distance of two boxes. -/
def sqDist (u w : Box) : ℝ := ∑ p, ∑ a, ∑ c, (u p a c - w p a c) * (u p a c - w p a c)

/-- The box of signs. -/
def signBox (u : Box) : Box := fun p a c => sgn (u p a c)

/-- The box of signs with one positive of each row set to one. -/
def rowBox (u : Box) (r : Fin 16 → Fin 8) : Box := fun p a c => if a = r p then 1 else sgn (u p a c)

/-- The box of signs with one negative of each row set to minus one. -/
def colBox (u : Box) (r : Fin 16 → Fin 4088) : Box := fun p a c => if c = r p then -1 else sgn (u p a c)

/-- The squared distance to a box of extended reals. -/
def metaDist (u : Box) (w : Fin 16 → Fin 8 → Fin 4088 → EReal) : EReal :=
  ∑ p, ∑ a, ∑ c, (((u p a c : ℝ) : EReal) - w p a c) * (((u p a c : ℝ) : EReal) - w p a c)

/-- The share of the rows with a positive above every negative. -/
def accShare (u : Box) : ℝ := by
  classical exact (∑ p, if ∃ a, ∀ c, 0 < u p a c then (1 : ℝ) else 0) * (1 / 16)

/-- The squared distance of an image's comparisons to its `x`-th point: five stored boxes, eight with a row set, eight
    with a column set, and the signs. -/
def disPt (u : Box) (w : Fin 5 → Fin 16 → Fin 8 → Fin 4088 → EReal) (r1 : Fin 8 → Fin 16 → Fin 8)
    (r2 : Fin 8 → Fin 16 → Fin 4088) (x : Fin 22) : EReal :=
  if h : x.val < 5 then metaDist u (w ⟨x.val, h⟩)
  else if h : x.val < 13 then ((sqDist u (rowBox u (r1 ⟨x.val - 5, by omega⟩)) : ℝ) : EReal)
  else if h : x.val < 21 then ((sqDist u (colBox u (r2 ⟨x.val - 13, by omega⟩)) : ℝ) : EReal)
  else ((sqDist u (signBox u) : ℝ) : EReal)

/-- The accuracy of an image's `x`-th point: five stored, one, zero, and the image's own. -/
def pckPt (u : Box) (y : Fin 5 → EReal) (x : Fin 22) : EReal :=
  if h : x.val < 5 then y ⟨x.val, h⟩ else if x.val < 13 then 1 else if x.val < 21 then 0 else ((accShare u : ℝ) : EReal)

/-- A sum over 128 is a sum over 16 times 8. -/
theorem sum_128 {M : Type*} [AddCommMonoid M] (f : Fin 128 → M) :
    ∑ i, f i = ∑ p : Fin 16, ∑ a : Fin 8, f ⟨p.val * 8 + a.val, by omega⟩ := by
  rw [← Fintype.sum_prod_type' (f := fun (p : Fin 16) (a : Fin 8) => f ⟨p.val * 8 + a.val, by omega⟩)]
  symm
  refine Fintype.sum_equiv (finProdFinEquiv (m := 16) (n := 8)) _ _ fun x => ?_
  refine congrArg f (Fin.ext ?_)
  show x.1.val * 8 + x.2.val = x.2.val + 8 * x.1.val
  omega

/-- The distance to the signs, expanded. -/
theorem sqDist_sign (u : Box) :
    sqDist u (signBox u) = (∑ p, ∑ a, ∑ c, u p a c * u p a c) - 2 * (∑ p, ∑ a, ∑ c, |u p a c|) + 523264 := by
  have h : ∀ p a c, (u p a c - signBox u p a c) * (u p a c - signBox u p a c) = u p a c * u p a c - 2 * |u p a c| + 1 := by
    intro p a c
    have h1 := sgn_mul (u p a c)
    have h2 := sgn_sq (u p a c)
    unfold signBox
    linear_combination (-2) * h1 + h2
  unfold sqDist
  simp only [h, Finset.sum_add_distrib, Finset.sum_sub_distrib, Finset.mul_sum, Finset.sum_const, Finset.card_univ, Fintype.card_fin]
  norm_num

/-- The distance to the signs with one positive of each row set: that row's terms change by twice the gap between the
    absolute value and the value. -/
theorem sqDist_row (u : Box) (r : Fin 16 → Fin 8) :
    sqDist u (rowBox u r) = sqDist u (signBox u)
      + ∑ p, ∑ a, (if a = r p then (1 : ℝ) else 0) * (2 * ((∑ c, |u p a c|) - ∑ c, u p a c)) := by
  unfold sqDist
  rw [← Finset.sum_add_distrib]
  refine Finset.sum_congr rfl fun p _ => ?_
  rw [← Finset.sum_add_distrib]
  refine Finset.sum_congr rfl fun a _ => ?_
  rw [← Finset.sum_sub_distrib, Finset.mul_sum, Finset.mul_sum, ← Finset.sum_add_distrib]
  refine Finset.sum_congr rfl fun c _ => ?_
  have h1 := sgn_mul (u p a c)
  have h2 := sgn_sq (u p a c)
  unfold rowBox signBox
  split_ifs with h
  · linear_combination 2 * h1 - h2
  · ring

/-- The distance to the signs with one negative of each row set: that column's terms change by four times the positive
    part. -/
theorem sqDist_col (u : Box) (r : Fin 16 → Fin 4088) :
    sqDist u (colBox u r) = sqDist u (signBox u)
      + 4 * ∑ p, ∑ c, (if c = r p then ∑ a, max (u p a c) 0 else 0) := by
  unfold sqDist
  rw [Finset.mul_sum, ← Finset.sum_add_distrib]
  refine Finset.sum_congr rfl fun p _ => ?_
  rw [Finset.sum_comm, Finset.sum_comm (f := fun a c => (u p a c - signBox u p a c) * (u p a c - signBox u p a c)),
    Finset.mul_sum, ← Finset.sum_add_distrib]
  refine Finset.sum_congr rfl fun c _ => ?_
  by_cases h : c = r p
  · rw [if_pos h, Finset.mul_sum, ← Finset.sum_add_distrib]
    refine Finset.sum_congr rfl fun a _ => ?_
    have h1 := sgn_mul (u p a c)
    have h2 := sgn_sq (u p a c)
    have h3 : 2 * max (u p a c) 0 = u p a c + |u p a c| := by
      rcases le_total (u p a c) 0 with hu | hu
      · rw [max_eq_right hu, abs_of_nonpos hu]; ring
      · rw [max_eq_left hu, abs_of_nonneg hu]; ring
    unfold colBox signBox
    rw [if_pos h]
    linear_combination 2 * h1 - h2 - 2 * h3
  · rw [if_neg h, mul_zero, add_zero]
    refine Finset.sum_congr rfl fun a _ => ?_
    unfold colBox signBox
    rw [if_neg h]

end Cert.Scalar
end
-- ==== Proof.Cmp.lean ====
/- What a block's comparison array holds, and its sums: the rows are the pairs (row, positive), the columns the
   negatives; the last eight columns are zero. -/
module

public import proofs.«01_k».proof.Proof.Select
public import proofs.«01_k».proof.Proof.Dist

@[expose] public section

set_option maxRecDepth 16384

noncomputable section

open Idealize.ShloMosaic Idealize.ShloMosaic.TcCoe

namespace Cert.KernelIdeal.Value
open Cert.KernelIdeal Cert.KernelIdeal.Gen Cert.Scalar

/-- The block's comparisons: positive `a` of row `p` against that row's negative `c`. -/
def boxB (x0 : PredBlk) (x1 : BitBlk) : Box := fun p a c =>
  cmpR (posB x0 x1 (ix2 p a) - negB x0 x1 (ix2 p ⟨c.val, by omega⟩))

/-- The column test, as a word: the column is among the first 4088. -/
theorem slt_width (c : Fin 4096) : IntOp.cmpi .slt (BitVec.ofNat 32 c.val) 4088#32 = BitVec.ofBool (decide (c.val < 4088)) := by
  show BitVec.ofBool (BitVec.slt _ _) = _
  rw [BitVec.slt_eq_decide]
  congr 2
  rw [BitVec.toInt_eq_toNat_of_lt (by rw [BitVec.toNat_ofNat]; omega), BitVec.toNat_ofNat, Nat.mod_eq_of_lt (by omega)]
  exact propext ⟨fun h => by simpa using h, fun h => by simpa using h⟩

/-- The comparison array: entry `(i, c)` is that of positive `i % 8` of row `i / 8`, zero past the negatives. -/
theorem curB_apply (x0 : PredBlk) (x1 : BitBlk) (i : Fin 128) (c : Fin 4096) :
    curB x0 x1 (ix2 i c) = if h : c.val < 4088 then ((boxB x0 x1 ⟨i.val / 8, by omega⟩ ⟨i.val % 8, by omega⟩ ⟨c.val, h⟩ : ℝ) : EReal) else 0 := by
  unfold curB negRepB k0_pay25 k0_pay26
  rw [show k0_pay22 (F := Ideal) (k0_pay10 x0) (exclB x1) (k0_pay16 (F := Ideal) (k0_pay11 x1)) (neg5B x0 x1)
    (k0_pay20 (k0_pay16 (F := Ideal) (k0_pay11 x1))) (k0_pay21 (exclB x1)) = negB x0 x1 from rfl]
  unfold boxB
  generalize posB x0 x1 = P
  generalize negB x0 x1 = N
  pointwise [k0_pay24]
  rw [slt_width c, ofBits_half]
  by_cases h : c.val < 4088
  · rw [decide_eq_true h, dif_pos h, ← tanh_eq]; rfl
  · rw [decide_eq_false h, dif_neg h]; rfl

/-- A row's sum over 4096 columns, the last eight zero, is its sum over the first 4088. -/
theorem sum_cols (f : Fin 4096 → EReal) (g : Fin 4088 → ℝ) (h : ∀ c, f c = if h : c.val < 4088 then ((g ⟨c.val, h⟩ : ℝ) : EReal) else 0) :
    ∑ c, f c = ((∑ c, g c : ℝ) : EReal) := by
  rw [← coe_sum]
  have := Fin.sum_univ_add (a := 4088) (b := 8) f
  rw [show (∑ c, f c) = ∑ c : Fin (4088 + 8), f c from rfl, this]
  rw [Finset.sum_eq_zero (s := Finset.univ) (f := fun i : Fin 8 => f (Fin.natAdd 4088 i)), add_zero]
  · refine Finset.sum_congr rfl fun c _ => ?_
    rw [h, dif_pos (show (Fin.castAdd 8 c).val < 4088 from c.isLt)]; rfl
  · intro c _
    rw [h, dif_neg]
    show ¬(4088 + c.val < 4088)
    omega

/-- The same at the row of a pair. -/
theorem curB_pair (x0 : PredBlk) (x1 : BitBlk) (p : Fin 16) (a : Fin 8) (c : Fin 4096) :
    curB x0 x1 (ix2 ⟨p.val * 8 + a.val, by omega⟩ c) = if h : c.val < 4088 then ((boxB x0 x1 p a ⟨c.val, h⟩ : ℝ) : EReal) else 0 := by
  rw [curB_apply]
  have h1 : (⟨(p.val * 8 + a.val) / 8, by omega⟩ : Fin 16) = p := Fin.ext (by show (p.val * 8 + a.val) / 8 = p.val; omega)
  have h2 : (⟨(p.val * 8 + a.val) % 8, by omega⟩ : Fin 8) = a := Fin.ext (by show (p.val * 8 + a.val) % 8 = a.val; omega)
  rw [h1, h2]

/-- The row sums. -/
theorem rowB_apply (x0 : PredBlk) (x1 : BitBlk) (p : Fin 16) (a : Fin 8) :
    rowB x0 x1 (ix1 ⟨p.val * 8 + a.val, by omega⟩) = ((∑ c, boxB x0 x1 p a c : ℝ) : EReal) := by
  unfold rowB k0_pay28
  rw [show k0_pay26 (F := Ideal) (k0_pay24 (posB x0 x1)) (negRepB x0 x1) = curB x0 x1 from rfl]
  have h := curB_pair x0 x1 p a
  generalize curB x0 x1 = C at h ⊢
  pointwise
  exact sum_cols _ _ h

/-- The row sums of the absolute values. -/
theorem absRowB_apply (x0 : PredBlk) (x1 : BitBlk) (p : Fin 16) (a : Fin 8) :
    absRowB x0 x1 (ix1 ⟨p.val * 8 + a.val, by omega⟩) = ((∑ c, |boxB x0 x1 p a c| : ℝ) : EReal) := by
  unfold absRowB k0_pay29
  rw [show k0_pay26 (F := Ideal) (k0_pay24 (posB x0 x1)) (negRepB x0 x1) = curB x0 x1 from rfl]
  have h := curB_pair x0 x1 p a
  generalize curB x0 x1 = C at h ⊢
  pointwise
  refine sum_cols _ _ fun c => ?_
  rw [h]
  by_cases hc : c.val < 4088
  · rw [dif_pos hc, dif_pos hc, ← abs_coe]; rfl
  · rw [dif_neg hc, dif_neg hc]
    show max (0 : EReal) (-0) = 0
    rw [neg_zero, max_self]

/-- The sum of the squares. -/
theorem sqB_eq (x0 : PredBlk) (x1 : BitBlk) :
    sqB x0 x1 = ((∑ p, ∑ a, ∑ c, boxB x0 x1 p a c * boxB x0 x1 p a c : ℝ) : EReal) := by
  unfold sqB k0_pay27
  rw [show k0_pay26 (F := Ideal) (k0_pay24 (posB x0 x1)) (negRepB x0 x1) = curB x0 x1 from rfl]
  have h := curB_pair x0 x1
  generalize curB x0 x1 = C at h ⊢
  pointwise
  rw [sum_128, ← coe_sum]
  refine Finset.sum_congr rfl fun p _ => ?_
  rw [← coe_sum]
  refine Finset.sum_congr rfl fun a _ => sum_cols _ _ fun c => ?_
  rw [h]
  by_cases hc : c.val < 4088
  · rw [dif_pos hc, dif_pos hc, ← EReal.coe_mul]
  · rw [dif_neg hc, dif_neg hc, mul_zero]

/-- The sum of everything, over the number of comparisons: the block's mean. -/
theorem mean_eq (x0 : PredBlk) (x1 : BitBlk) :
    k0_pay4 (F := Ideal) (rowB x0 x1)
      = Ideal.div ((∑ p, ∑ a, ∑ c, boxB x0 x1 p a c : ℝ) : EReal) (Ideal.ofBits .f32 0x48FF8000#32) := by
  have h := rowB_apply x0 x1
  generalize rowB x0 x1 = A at h ⊢
  pointwise [k0_pay4]
  rw [sum_128]
  simp only [h, coe_sum]

/-- The integer part of the eight-to-one table: the test that index `i` belongs to row `p`. -/
theorem onesel_word : ∀ (p : Fin 16) (i : Fin 128),
    (IntOp.cmpi CmpIPredicate.eq
          (Scalar.select
            (IntOp.andi
              (IntOp.cmpi CmpIPredicate.ne
                (IntOp.subi (BitVec.setWidth 32 (IntOp.cmpi CmpIPredicate.sgt (BitVec.ofNat 32 i.val) 0#32))
                  (BitVec.setWidth 32 (IntOp.cmpi CmpIPredicate.slt (BitVec.ofNat 32 i.val) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 i.val) 8#32) 0#32))
            (IntOp.subi (IntOp.divsi ArithUnit.vector (BitVec.ofNat 32 i.val) 8#32) 1#32)
            (IntOp.divsi ArithUnit.vector (BitVec.ofNat 32 i.val) 8#32))
          (BitVec.ofNat 32 p.val)) = BitVec.ofBool (decide (i.val / 8 = p.val)) := by
  decide +kernel

/-- The eight-to-one table: one where index `i` belongs to row `p`. -/
theorem onesel_apply (p q : Fin 16) (a : Fin 8) :
    k0_pay30 (F := Ideal) (ix2 p ⟨q.val * 8 + a.val, by omega⟩) = if q = p then 1 else 0 := by
  pointwise [k0_pay30]
  have h := onesel_word p ⟨q.val * 8 + a.val, by omega⟩
  dsimp only at h
  rw [h, show (q.val * 8 + a.val) / 8 = q.val by omega]
  by_cases hp : q = p
  · rw [if_pos hp, decide_eq_true (congrArg Fin.val hp)]
    show ((((1 : ℤ) : ℝ)) : EReal) = 1
    simp
  · rw [if_neg hp, decide_eq_false (fun h => hp (Fin.ext h))]
    show ((((0 : ℤ) : ℝ)) : EReal) = 0
    simp

/-- The squared distance to the signs. -/
theorem baseB_eq (x0 : PredBlk) (x1 : BitBlk) :
    baseB x0 x1 = ((sqDist (boxB x0 x1) (signBox (boxB x0 x1)) : ℝ) : EReal) := by
  unfold baseB
  have h := absRowB_apply x0 x1
  rw [sqB_eq, sqDist_sign]
  generalize absRowB x0 x1 = A at h ⊢
  pointwise [k0_pay31]
  rw [sum_128]
  simp only [h, ofBits_two, ofBits_size, coe_sum, ← EReal.coe_mul, ← EReal.coe_sub, ← EReal.coe_add]

/-- The squared distances to the first eight boxes, for a one-hot table. -/
theorem dis1B_apply (x0 : PredBlk) (x1 : BitBlk) (x4 : Vec Ideal S1x8x16x8 .f32) (k : Fin 8) (r : Fin 16 → Fin 8)
    (hr : ∀ p a, x4 (ix4 0 k p a) = if a = r p then (1 : EReal) else 0) :
    dis1B x0 x1 x4 (ix1 k) = ((sqDist (boxB x0 x1) (rowBox (boxB x0 x1) r) : ℝ) : EReal) := by
  unfold dis1B
  have h := absRowB_apply x0 x1
  have h' := rowB_apply x0 x1
  have hb := baseB_eq x0 x1
  unfold k0_pay32
  rw [show k0_pay31 (F := Ideal) (sqB x0 x1) (absRowB x0 x1) = baseB x0 x1 from rfl, sqDist_row]
  generalize absRowB x0 x1 = A at h ⊢
  generalize rowB x0 x1 = A' at h' ⊢
  generalize baseB x0 x1 = B at hb ⊢
  pointwise
  rw [hb, EReal.coe_add, ← coe_sum]
  congr 1
  refine Finset.sum_congr rfl fun p _ => ?_
  rw [← coe_sum]
  refine Finset.sum_congr rfl fun a _ => ?_
  rw [h, h', hr, ofBits_two, ← EReal.coe_sub, ← EReal.coe_mul, EReal.coe_mul (if a = r p then (1 : ℝ) else 0)]
  congr 1
  split_ifs <;> rfl

theorem select_true (x y : Ideal .f32) : Scalar.select (BitVec.ofBool true) x y = x := rfl

/-- The squared distances to the second eight boxes, for a table of column numbers. -/
theorem dis2B_apply (x0 : PredBlk) (x1 : BitBlk) (x5 : Vec Ideal S1x8x16 .i32) (k : Fin 8) (r : Fin 16 → Fin 4088)
    (hr : ∀ p, x5 (ix3 0 k p) = BitVec.ofNat 32 (r p).val) :
    dis2B x0 x1 x5 (ix1 k) = ((sqDist (boxB x0 x1) (colBox (boxB x0 x1) r) : ℝ) : EReal) := by
  unfold dis2B
  have h := curB_pair x0 x1
  have hb := baseB_eq x0 x1
  have ho := onesel_apply
  unfold k0_pay33
  rw [show k0_pay31 (F := Ideal) (sqB x0 x1) (absRowB x0 x1) = baseB x0 x1 from rfl, sqDist_col]
  generalize curB x0 x1 = C at h ⊢
  generalize baseB x0 x1 = B at hb ⊢
  generalize k0_pay30 (F := Ideal) = O at ho ⊢
  pointwise
  rw [hb, EReal.coe_add, EReal.coe_mul, ofBits_four, ← coe_sum]
  congr 2
  refine Finset.sum_congr rfl fun p _ => sum_cols _ _ fun c => ?_
  rw [hr, cmpi_count _ _ (by omega) (by have := (r p).isLt; omega)]
  by_cases hc : c.val = (r p).val
  · have hlt : c.val < 4088 := by have := (r p).isLt; omega
    rw [decide_eq_true hc, dif_pos hlt, if_pos (Fin.ext hc), sum_128, Finset.sum_eq_single p]
    · rw [select_true, ← coe_sum]
      refine Finset.sum_congr rfl fun a _ => ?_
      rw [ho, if_pos rfl, one_mul, h, dif_pos hlt, max_coe_zero]
    · intro q _ hq
      refine Finset.sum_eq_zero fun a _ => ?_
      rw [ho, if_neg hq, zero_mul]
    · intro hq; exact absurd (Finset.mem_univ _) hq
  · rw [decide_eq_false hc]
    by_cases hlt : c.val < 4088
    · rw [dif_pos hlt, if_neg (fun e => hc (congrArg Fin.val e))]; rfl
    · rw [dif_neg hlt]; rfl

/-- The kernel's squared distance to a stored box. -/
theorem meta_apply (x0 : PredBlk) (x1 : BitBlk) (y : MetaBlk) :
    (∑ i : Fin 128, ∑ c : Fin 4088, (curB x0 x1 (ix2 i ⟨c.val, by omega⟩) - y (ix5 0 0 ⟨i.val / 8, by omega⟩ ⟨i.val % 8, by omega⟩ c))
       * (curB x0 x1 (ix2 i ⟨c.val, by omega⟩) - y (ix5 0 0 ⟨i.val / 8, by omega⟩ ⟨i.val % 8, by omega⟩ c)) : EReal)
      = metaDist (boxB x0 x1) (fun p a c => y (ix5 0 0 p a c)) := by
  unfold metaDist
  rw [sum_128]
  refine Finset.sum_congr rfl fun p _ => Finset.sum_congr rfl fun a _ => Finset.sum_congr rfl fun c _ => ?_
  have h1 : (⟨(p.val * 8 + a.val) / 8, by omega⟩ : Fin 16) = p := Fin.ext (by show (p.val * 8 + a.val) / 8 = p.val; omega)
  have h2 : (⟨(p.val * 8 + a.val) % 8, by omega⟩ : Fin 8) = a := Fin.ext (by show (p.val * 8 + a.val) % 8 = a.val; omega)
  rw [curB_pair, dif_pos (show c.val < 4088 from c.isLt), h1, h2]

end Cert.KernelIdeal.Value
end
-- ==== Proof.Acc.lean ====
/- The share of an image's rows whose best positive beats every negative, as the kernel and as the reference count it. -/
module

public import proofs.«01_k».proof.Proof.Cmp

@[expose] public section

set_option maxRecDepth 16384

noncomputable section

open Idealize.ShloMosaic Idealize.ShloMosaic.TcCoe

namespace Cert.KernelIdeal.Value
open Cert.KernelIdeal Cert.KernelIdeal.Gen Cert.Scalar

/-- The largest of a family exceeds the largest of another exactly where one member exceeds all of the other's. -/
theorem fold_max_lt {n k : ℕ} (f : Fin n → EReal) (g : Fin k → EReal) (hn : 0 < n) :
    Finset.fold max ⊥ f Finset.univ < Finset.fold max ⊥ g Finset.univ ↔ ∃ a, ∀ c, f c < g a := by
  rw [show Finset.fold max ⊥ f Finset.univ = Finset.univ.sup f from rfl,
    show Finset.fold max ⊥ g Finset.univ = Finset.univ.sup g from rfl, Finset.lt_sup_iff]
  constructor
  · rintro ⟨a, _, h⟩
    refine ⟨a, fun c => ?_⟩
    exact lt_of_le_of_lt (Finset.le_sup (f := f) (Finset.mem_univ c)) h
  · rintro ⟨a, h⟩
    exact ⟨a, Finset.mem_univ a, (Finset.sup_lt_iff (lt_of_le_of_lt bot_le (h ⟨0, hn⟩))).mpr fun c _ => h c⟩

/-- A truth value, as the number one or zero. -/
theorem sitofp_bool (q : Prop) [Decidable q] :
    (FloatOps.sitofp (F := Ideal) FTy.f32 (BitVec.setWidth 32 (BitVec.ofBool (decide q))) : EReal)
      = (((if q then (1 : ℝ) else 0) : ℝ) : EReal) := by
  by_cases h : q
  · rw [decide_eq_true h, if_pos h]
    show ((((1 : ℤ) : ℝ)) : EReal) = _
    simp
  · rw [decide_eq_false h, if_neg h]
    show ((((0 : ℤ) : ℝ)) : EReal) = _
    simp

/-- The kernel's accuracy of an image. -/
theorem accB_eq (x0 : PredBlk) (x1 : BitBlk) : accB x0 x1 = ((accShare (boxB x0 x1) : ℝ) : EReal) := by
  classical
  unfold accB accShare boxB
  generalize posB x0 x1 = P
  generalize negB x0 x1 = N
  pointwise [k0_pay36, k0_pay34, k0_pay35, k0_pay23]
  rw [ofBits_sixteen, ofBits_bot, Ideal.div_coe (by norm_num), EReal.coe_mul, ← coe_sum]
  refine congrArg (· * _) (Finset.sum_congr rfl fun p _ => ?_)
  rw [sitofp_bool]
  refine congrArg _ (if_congr ?_ rfl rfl)
  rw [fold_max_lt _ _ (by norm_num)]
  refine exists_congr fun a => ⟨fun h c => ?_, fun h c => ?_⟩
  · have h1 := h ⟨c.val, by omega⟩
    rw [slt_width, decide_eq_true (show c.val < 4088 from c.isLt), select_true] at h1
    exact (cmpR_sub_pos _ _).mpr h1
  · rw [slt_width]
    by_cases hc : c.val < 4088
    · rw [decide_eq_true hc, select_true]
      exact (cmpR_sub_pos _ _).mp (h ⟨c.val, hc⟩)
    · rw [decide_eq_false hc]
      exact lt_of_le_of_lt bot_le ((cmpR_sub_pos _ _).mp (h 0))

/-- A sum against a one-hot row picks its element. -/
theorem sum_onehot {n : ℕ} (e f : Fin n → EReal) (k : Fin n) (h : ∀ x, e x = if x = k then 1 else 0) :
    ∑ x, e x * f x = f k := by
  rw [Finset.sum_eq_single k]
  · rw [h, if_pos rfl, one_mul]
  · intro x _ hx; rw [h, if_neg hx, zero_mul]
  · intro hk; exact absurd (Finset.mem_univ _) hk

/-- The stored boxes of an image, from its five loads. -/
def metaOf (y0 y1 y2 y3 y4 : MetaBlk) : Fin 5 → Fin 16 → Fin 8 → Fin 4088 → EReal :=
  ![fun p a c => y0 (ix5 0 0 p a c), fun p a c => y1 (ix5 0 0 p a c), fun p a c => y2 (ix5 0 0 p a c),
    fun p a c => y3 (ix5 0 0 p a c), fun p a c => y4 (ix5 0 0 p a c)]

/-- The kernel's 22 squared distances of an image, for one-hot tables. -/
theorem disB_apply (x0 : PredBlk) (x1 : BitBlk) (y0 y1 y2 y3 y4 : MetaBlk) (x3 : Vec Ideal S1x22x22 .f32)
    (x4 : Vec Ideal S1x8x16x8 .f32) (x5 : Vec Ideal S1x8x16 .i32) (r1 : Fin 8 → Fin 16 → Fin 8)
    (r2 : Fin 8 → Fin 16 → Fin 4088) (pm : Fin 22 → Fin 22)
    (h4 : ∀ k p a, x4 (ix4 0 k p a) = if a = r1 k p then (1 : EReal) else 0)
    (h5 : ∀ k p, x5 (ix3 0 k p) = BitVec.ofNat 32 (r2 k p).val)
    (h3 : ∀ k x, x3 (ix3 0 k x) = if x = pm k then (1 : EReal) else 0) (k : Fin 22) :
    disB x0 x1 y0 y1 y2 y3 y4 x3 x4 x5 (ix1 k) = disPt (boxB x0 x1) (metaOf y0 y1 y2 y3 y4) r1 r2 (pm k) := by
  unfold disB
  have hb := baseB_eq x0 x1
  have hd1 := fun k => dis1B_apply x0 x1 x4 k (r1 k) (h4 k)
  have hd2 := fun k => dis2B_apply x0 x1 x5 k (r2 k) (h5 k)
  have hm := meta_apply x0 x1
  generalize curB x0 x1 = C at hm ⊢
  generalize baseB x0 x1 = b at hb ⊢
  generalize dis1B x0 x1 x4 = d1 at hd1 ⊢
  generalize dis2B x0 x1 x5 = d2 at hd2 ⊢
  unfold k0_pay41
  generalize hY : (concatenate S22 _ _ _ : FVec Ideal S22 .f32) = Y
  pointwise [k0_pay9]
  rw [sum_onehot _ _ (pm k) (h3 k)]
  generalize pm k = x
  rw [← hY]
  pointwise [k0_pay37, k0_pay38, k0_pay39, k0_pay40]
  simp only [hm, hd1, hd2, hb]
  unfold disPt
  fin_vals x with hx
  all_goals simp only [hx, Nat.reduceSub, Nat.reduceLT, ↓reduceDIte]
  all_goals rfl

/-- The kernel's 22 accuracies of an image, for a one-hot table. -/
theorem pckB_apply (x0 : PredBlk) (x1 : BitBlk) (x3 : Vec Ideal S1x22x22 .f32) (y6 : Vec Ideal S1x5 .f32)
    (pm : Fin 22 → Fin 22) (h3 : ∀ k x, x3 (ix3 0 k x) = if x = pm k then (1 : EReal) else 0) (k : Fin 22) :
    pckB x0 x1 x3 y6 (ix1 k) = pckPt (boxB x0 x1) (fun j => y6 (ix2 0 j)) (pm k) := by
  unfold pckB
  pointwise [k0_pay9, k0_pay42]
  rw [accB_eq]
  simp only [h3]
  generalize pm k = x
  unfold pckPt
  rw [Fin.sum_univ_five, Fin.sum_univ_eight]
  fin_vals x with hx
  all_goals simp [Fin.ext_iff, hx]

end Cert.KernelIdeal.Value
end
-- ==== Proof.Tables.lean ====
/- The constant tables: the one-hot and index tables the kernel reads are those of the reference's draws. -/
module

public import proofs.«01_k».proof.KernelIdeal
public import proofs.«01_k».proof.ReferenceIdeal

@[expose] public section

set_option maxRecDepth 16384

noncomputable section

namespace Cert.Tables

/-- The positive drawn for copy `k` of image `b` in row `p`. -/
def r1 (b : Fin 4) (k : Fin 8) (p : Fin 16) : Fin 8 :=
  ⟨(ReferenceIdeal.lit0 ⟨(b.val * 8 + k.val) * 16 + p.val, by omega⟩).toNat % 8, Nat.mod_lt _ (by norm_num)⟩

/-- The negative drawn for copy `k` of image `b` in row `p`. -/
def r2 (b : Fin 4) (k : Fin 8) (p : Fin 16) : Fin 4088 :=
  ⟨(ReferenceIdeal.lit1 ⟨(b.val * 8 + k.val) * 16 + p.val, by omega⟩).toNat % 4088, Nat.mod_lt _ (by norm_num)⟩

/-- The point that image `b` places at `k`. -/
def perm (b : Fin 4) (k : Fin 22) : Fin 22 :=
  ⟨(ReferenceIdeal.lit2 ⟨b.val * 22 + k.val, by omega⟩).toNat % 22, Nat.mod_lt _ (by norm_num)⟩

theorem ref_r1 : ∀ (b : Fin 4) (k : Fin 8) (p : Fin 16),
    ReferenceIdeal.lit0 ⟨(b.val * 8 + k.val) * 16 + p.val, by omega⟩ = BitVec.ofNat 32 (r1 b k p).val := by
  decide +kernel

theorem ref_r2 : ∀ (b : Fin 4) (k : Fin 8) (p : Fin 16),
    ReferenceIdeal.lit1 ⟨(b.val * 8 + k.val) * 16 + p.val, by omega⟩ = BitVec.ofNat 32 (r2 b k p).val := by
  decide +kernel

theorem ref_perm : ∀ (b : Fin 4) (k : Fin 22),
    ReferenceIdeal.lit2 ⟨b.val * 22 + k.val, by omega⟩ = BitVec.ofNat 32 (perm b k).val := by
  decide +kernel

theorem ker_r1 : ∀ (b : Fin 4) (k : Fin 8) (p : Fin 16) (a : Fin 8),
    KernelIdeal.lit0 ⟨((b.val * 8 + k.val) * 16 + p.val) * 8 + a.val, by omega⟩
      = if a = r1 b k p then 0x3F800000#32 else 0x00000000#32 := by
  decide +kernel

theorem ker_r2 : ∀ (b : Fin 4) (k : Fin 8) (p : Fin 16),
    KernelIdeal.lit1 ⟨(b.val * 8 + k.val) * 16 + p.val, by omega⟩ = BitVec.ofNat 32 (r2 b k p).val := by
  decide +kernel

theorem ker_perm : ∀ (b : Fin 4) (k x : Fin 22),
    KernelIdeal.lit2 ⟨(b.val * 22 + k.val) * 22 + x.val, by omega⟩
      = if x = perm b k then 0x3F800000#32 else 0x00000000#32 := by
  decide +kernel

end Cert.Tables
end
-- ==== Proof.Rows.lean ====
/- The arguments, row by row: a row of an image has 4096 predictions and 4096 bits, eight of them ones. -/
module

public import proofs.«01_k».proof.Proof.Dist
public import proofs.«01_k».proof.Proof.Sort

@[expose] public section

noncomputable section

open Idealize.ShloMosaic

namespace Cert.Rows
open Cert.Scalar Cert.Rank

/-- An array of predictions. -/
abbrev PredArr := (⟨4, ![4, 16, 64, 64]⟩ : Shape).Idx → EReal
/-- An array of bits. -/
abbrev BitArr := (⟨4, ![4, 16, 64, 64]⟩ : Shape).Idx → BitVec 32

/-- Pixel `s` of a row, as an index of the array. -/
def pix (b : Fin 4) (p : Fin 16) (s : Fin 4096) : (⟨4, ![4, 16, 64, 64]⟩ : Shape).Idx :=
  ix4 b p ⟨s.val / 64, by omega⟩ ⟨s.val % 64, by omega⟩

/-- The prediction at pixel `s` of a row. -/
def predN (A : PredArr) (b : Fin 4) (p : Fin 16) (s : ℕ) : EReal := if h : s < 4096 then A (pix b p ⟨s, h⟩) else 0

/-- Pixel `s` of a row holds a one. -/
def ones (B : BitArr) (b : Fin 4) (p : Fin 16) (s : ℕ) : Prop := if h : s < 4096 then B (pix b p ⟨s, h⟩) = 1#32 else False

instance (B : BitArr) (b : Fin 4) (p : Fin 16) : DecidablePred (ones B b p) := fun s => by unfold ones; infer_instance

theorem ones_iff (B : BitArr) (b : Fin 4) (p : Fin 16) (s : Fin 4096) : ones B b p s.val ↔ B (pix b p s) = 1#32 := by
  unfold ones; rw [dif_pos s.isLt]

/-- Every row holds zeros and ones, and eight ones. -/
def Good (B : BitArr) : Prop :=
  ∀ b p, (∀ s, B (pix b p s) = 0#32 ∨ B (pix b p s) = 1#32) ∧ Nat.count (ones B b p) 4096 = 8

/-- Image `b`'s comparisons: the `a`-th positive of row `p` against its `c`-th negative. -/
def imgBox (A : PredArr) (B : BitArr) (b : Fin 4) : Box := fun p a c =>
  cmpR (predN A b p (nth (ones B b p) a.val) - predN A b p (nth (fun s => ¬ones B b p s) c.val))

/-- The `a`-th one of a good row is a pixel of the row. -/
theorem one_spec {B : BitArr} (hB : Good B) (b : Fin 4) (p : Fin 16) (a : Fin 8) :
    nth (ones B b p) a.val < 4096 ∧ ones B b p (nth (ones B b p) a.val)
      ∧ Nat.count (ones B b p) (nth (ones B b p) a.val) = a.val :=
  nth_spec _ 4096 _ (by rw [(hB b p).2]; exact a.isLt)

/-- A good row has 4088 zeros. -/
theorem count_zeros {B : BitArr} (hB : Good B) (b : Fin 4) (p : Fin 16) : Nat.count (fun s => ¬ones B b p s) 4096 = 4088 := by
  have h := count_add_count_not (ones B b p) 4096
  have := (hB b p).2
  omega

/-- The `c`-th zero of a good row is a pixel of the row. -/
theorem zero_spec {B : BitArr} (hB : Good B) (b : Fin 4) (p : Fin 16) (c : Fin 4088) :
    nth (fun s => ¬ones B b p s) c.val < 4096 ∧ ¬ones B b p (nth (fun s => ¬ones B b p s) c.val)
      ∧ Nat.count (fun s => ¬ones B b p s) (nth (fun s => ¬ones B b p s) c.val) = c.val :=
  nth_spec _ 4096 _ (by rw [count_zeros hB]; exact c.isLt)

end Cert.Rows
end
-- ==== Proof.Blocks.lean ====
/- The blocks of a grid point, read in the arguments and the constant tables: point `t` treats image `t`. -/
module

public import proofs.«01_k».proof.Proof.KernelRun
public import proofs.«01_k».proof.Proof.Acc
public import proofs.«01_k».proof.Proof.Tables
public import proofs.«01_k».proof.Proof.Rows

@[expose] public section

set_option maxRecDepth 16384

noncomputable section

open Idealize.ShloMosaic Idealize.ShloMosaic.TcCoe Idealize.SL.Sem

namespace Cert.KernelIdeal.Value
open Cert.KernelIdeal Cert.KernelIdeal.Gen Cert.Scalar

variable (m : (ℓ : Loc nD τ sig) → Buf (Elt Ideal) ℓ)

/-- The image of a grid point. -/
abbrev img (t : Fin cfg0.N) : Fin 4 := ⟨t.val, t.isLt⟩

theorem idx0 : ∀ t : Fin cfg0.N, win0_0.index t = ![t.val, 0, 0, 0] ∧ win0_1.index t = ![t.val, 0, 0, 0]
    ∧ win0_2.index t = ![t.val, 0, 0, 0, 0] ∧ win0_3.index t = ![t.val, 0, 0] ∧ win0_4.index t = ![t.val, 0, 0, 0]
    ∧ win0_5.index t = ![t.val, 0, 0] ∧ win0_6.index t = ![0, 0] :=
  (by decide +kernel : ∀ t : Fin grid0.N, _)

theorem iblk0 (c : Dev nD) (t : Fin cfg0.N) (p : Fin 16) (a b : Fin 64) :
    iblk m c 0 t (ix4 0 p a b) = m ((c.tc : Thread nD τ).loc main_arg0) (ix4 (img t) p a b) := by
  blk_ext! [iblk, V, idx0 t]

theorem iblk1 (c : Dev nD) (t : Fin cfg0.N) (p : Fin 16) (a b : Fin 64) :
    iblk m c 1 t (ix4 0 p a b) = m ((c.tc : Thread nD τ).loc main_arg1) (ix4 (img t) p a b) := by
  blk_ext! [iblk, V, idx0 t]

theorem iblk2 (c : Dev nD) (t : Fin cfg0.N) (j : Fin 5) (p : Fin 16) (a : Fin 8) (b : Fin 4088) :
    iblk m c 2 t (ix5 0 j p a b) = m ((c.tc : Thread nD τ).loc main_arg3) (ix5 (img t) j p a b) := by
  blk_ext! [iblk, V, idx0 t]

theorem meta0_apply (c : Dev nD) (t : Fin cfg0.N) (p : Fin 16) (a : Fin 8) (b : Fin 4088) :
    meta0 m c t (ix5 0 0 p a b) = m ((c.tc : Thread nD τ).loc main_arg3) (ix5 (img t) 0 p a b) := by
  unfold meta0
  blk_ext! [iblk, V, idx0 t]

theorem meta1_apply (c : Dev nD) (t : Fin cfg0.N) (p : Fin 16) (a : Fin 8) (b : Fin 4088) :
    meta1 m c t (ix5 0 0 p a b) = m ((c.tc : Thread nD τ).loc main_arg3) (ix5 (img t) 1 p a b) := by
  unfold meta1
  blk_ext! [iblk, V, idx0 t]

theorem meta2_apply (c : Dev nD) (t : Fin cfg0.N) (p : Fin 16) (a : Fin 8) (b : Fin 4088) :
    meta2 m c t (ix5 0 0 p a b) = m ((c.tc : Thread nD τ).loc main_arg3) (ix5 (img t) 2 p a b) := by
  unfold meta2
  blk_ext! [iblk, V, idx0 t]

theorem meta3_apply (c : Dev nD) (t : Fin cfg0.N) (p : Fin 16) (a : Fin 8) (b : Fin 4088) :
    meta3 m c t (ix5 0 0 p a b) = m ((c.tc : Thread nD τ).loc main_arg3) (ix5 (img t) 3 p a b) := by
  unfold meta3
  blk_ext! [iblk, V, idx0 t]

theorem meta4_apply (c : Dev nD) (t : Fin cfg0.N) (p : Fin 16) (a : Fin 8) (b : Fin 4088) :
    meta4 m c t (ix5 0 0 p a b) = m ((c.tc : Thread nD τ).loc main_arg3) (ix5 (img t) 4 p a b) := by
  unfold meta4
  blk_ext! [iblk, V, idx0 t]

theorem off1 : ∀ t : Fin cfg0.N, k0_off1 (grid0.coords t) = ![t.val, 0] :=
  (by decide +kernel : ∀ t : Fin grid0.N, _)

theorem pckMeta_apply (c : Dev nD) (t : Fin cfg0.N) (j : Fin 5) :
    pckMeta m c t (ix2 0 j) = m ((c.tc : Thread nD τ).loc main_arg4) (ix2 (img t) j) := by
  unfold pckMeta
  blk_ext! [iblk, V, idx0 t, off1 t]

/-- The permutation table's block: row `k` is one at the point placed at `k`. -/
theorem iblk3 (c : Dev nD) (t : Fin cfg0.N) (k x : Fin 22) :
    iblk m c 3 t (ix3 0 k x) = if x = Tables.perm (img t) k then (1 : EReal) else 0 := by
  blk_simp [iblk, V, idx0 t]
  entry_read
  rw [show (((View.whole main_cst_0).slice (win0_3.rect t)).emb (ix3 0 k x)) = ix3 (img t) k x by blk_ext [idx0 t],
    show S4x22x22.rowMajor (ix3 (img t) k x) = (⟨((img t).val * 22 + k.val) * 22 + x.val, by have := (img t).isLt; omega⟩ : Fin 1936) from
      Fin.ext ((Idealize.ShloMosaic.rowMajor_val3 _ 484 22 rfl rfl).trans (by show t.val * 484 + k.val * 22 + x.val = _; dsimp only; omega)),
    Tables.ker_perm]
  split_ifs
  · exact Ideal.ofBits_one_f32
  · exact Ideal.ofBits_zero_f32

/-- The first draw table's block: copy `k` of row `p` is one at the positive drawn. -/
theorem iblk4 (c : Dev nD) (t : Fin cfg0.N) (k : Fin 8) (p : Fin 16) (a : Fin 8) :
    iblk m c 4 t (ix4 0 k p a) = if a = Tables.r1 (img t) k p then (1 : EReal) else 0 := by
  blk_simp [iblk, V, idx0 t]
  entry_read
  rw [show (((View.whole main_cst).slice (win0_4.rect t)).emb (ix4 0 k p a)) = ix4 (img t) k p a by blk_ext [idx0 t],
    show S4x8x16x8.rowMajor (ix4 (img t) k p a) = (⟨(((img t).val * 8 + k.val) * 16 + p.val) * 8 + a.val, by have := (img t).isLt; omega⟩ : Fin 4096) from
      Fin.ext ((Idealize.ShloMosaic.rowMajor_val4 _ 1024 128 8 rfl rfl rfl).trans (by show t.val * 1024 + k.val * 128 + p.val * 8 + a.val = _; dsimp only; omega)),
    Tables.ker_r1]
  split_ifs
  · exact Ideal.ofBits_one_f32
  · exact Ideal.ofBits_zero_f32

/-- The second draw table's block: the negatives drawn. -/
theorem iblk5 (c : Dev nD) (t : Fin cfg0.N) (k : Fin 8) (p : Fin 16) :
    iblk m c 5 t (ix3 0 k p) = BitVec.ofNat 32 (Tables.r2 (img t) k p).val := by
  blk_simp [iblk, V, idx0 t]
  entry_read
  rw [show (((View.whole main_c).slice (win0_5.rect t)).emb (ix3 0 k p)) = ix3 (img t) k p by blk_ext [idx0 t],
    show S4x8x16.rowMajor (ix3 (img t) k p) = (⟨((img t).val * 8 + k.val) * 16 + p.val, by have := (img t).isLt; omega⟩ : Fin 512) from
      Fin.ext ((Idealize.ShloMosaic.rowMajor_val3 _ 128 16 rfl rfl).trans (by show t.val * 128 + k.val * 16 + p.val = _; dsimp only; omega)),
    Tables.ker_r2]

open Cert.Rows Cert.Rank

/-- The predictions' argument. -/
abbrev predA (c : Dev nD) : PredArr := m ((c.tc : Thread nD τ).loc main_arg0)
/-- The bits' argument. -/
abbrev bitA (c : Dev nD) : BitArr := m ((c.tc : Thread nD τ).loc main_arg1)

/-- The block's flattened predictions. -/
theorem pay10_apply (c : Dev nD) (t : Fin cfg0.N) (p : Fin 16) (s : Fin 4096) :
    k0_pay10 (F := Ideal) (iblk m c 0 t) (ix2 p s) = predN (predA m c) (img t) p s.val := by
  have h := iblk0 m c t p
  generalize iblk m c 0 t = X at h ⊢
  pointwise [k0_pay10]
  unfold predN
  rw [dif_pos s.isLt, h]
  rfl

/-- The block's flattened bits: one where the row holds a one. -/
theorem bits_apply (c : Dev nD) (hB : Good (bitA m c)) (t : Fin cfg0.N) (p : Fin 16) :
    Bits (ones (bitA m c) (img t) p) (iblk m c 1 t) p := by
  intro s
  have h := iblk1 m c t p
  generalize iblk m c 1 t = X at h ⊢
  pointwise [k0_pay11]
  rw [h]
  have h1 := (hB (img t) p).1 s
  have h2 := ones_iff (bitA m c) (img t) p s
  unfold pix at h1 h2
  rcases h1 with h1 | h1
  · rw [if_neg (fun h => by rw [h2, h1] at h; exact absurd h (by decide))]
    refine (congrArg (FloatOps.sitofp (F := Ideal) .f32) h1).trans ?_
    show ((((0 : ℤ) : ℝ)) : EReal) = _
    simp
  · rw [if_pos (h2.mpr h1)]
    refine (congrArg (FloatOps.sitofp (F := Ideal) .f32) h1).trans ?_
    show ((((1 : ℤ) : ℝ)) : EReal) = _
    simp

/-- The block's comparisons are the image's. -/
theorem box_eq (c : Dev nD) (hB : Good (bitA m c)) (t : Fin cfg0.N) :
    boxB (iblk m c 0 t) (iblk m c 1 t) = imgBox (predA m c) (bitA m c) (img t) := by
  funext p a d
  unfold boxB imgBox
  have hb := bits_apply m c hB t p
  obtain ⟨h1, h2, h3⟩ := one_spec hB (img t) p a
  obtain ⟨g1, g2, g3⟩ := zero_spec hB (img t) p d
  rw [posB_apply _ _ _ p hb ⟨_, h1⟩ h2 a h3,
    negB_apply _ _ _ p hb (by rw [(hB (img t) p).2]) ⟨_, g1⟩ g2 ⟨d.val, by omega⟩ (by
      have := count_add_count_not (ones (bitA m c) (img t) p) (nth (fun s => ¬ones (bitA m c) (img t) p s) d.val)
      dsimp only; omega),
    pay10_apply, pay10_apply]

/-- The stored boxes of image `b`. -/
def metaBox (c : Dev nD) (b : Fin 4) : Fin 5 → Fin 16 → Fin 8 → Fin 4088 → EReal := fun j p a d =>
  m ((c.tc : Thread nD τ).loc main_arg3) (ix5 b j p a d)

theorem metaOf_eq (c : Dev nD) (t : Fin cfg0.N) :
    metaOf (meta0 m c t) (meta1 m c t) (meta2 m c t) (meta3 m c t) (meta4 m c t) = metaBox m c (img t) := by
  funext j p a d
  fin_cases j
  · exact meta0_apply m c t p a d
  · exact meta1_apply m c t p a d
  · exact meta2_apply m c t p a d
  · exact meta3_apply m c t p a d
  · exact meta4_apply m c t p a d

/-- The distances a point contributes: the image's, in the order of its permutation. -/
theorem disAt_apply (c : Dev nD) (hB : Good (bitA m c)) (t : Fin cfg0.N) (k : Fin 22) :
    disAt m c t (ix1 k) = disPt (imgBox (predA m c) (bitA m c) (img t)) (metaBox m c (img t))
      (Tables.r1 (img t)) (Tables.r2 (img t)) (Tables.perm (img t) k) := by
  unfold disAt
  rw [disB_apply _ _ _ _ _ _ _ _ _ _ (Tables.r1 (img t)) (Tables.r2 (img t)) (Tables.perm (img t))
    (iblk4 m c t) (iblk5 m c t) (iblk3 m c t), box_eq m c hB t, metaOf_eq]

/-- The accuracies a point contributes. -/
theorem pckAt_apply (c : Dev nD) (hB : Good (bitA m c)) (t : Fin cfg0.N) (k : Fin 22) :
    pckAt m c t (ix1 k) = pckPt (imgBox (predA m c) (bitA m c) (img t))
      (fun j => m ((c.tc : Thread nD τ).loc main_arg4) (ix2 (img t) j)) (Tables.perm (img t) k) := by
  unfold pckAt
  rw [pckB_apply _ _ _ _ (Tables.perm (img t)) (iblk3 m c t), box_eq m c hB t]
  simp only [pckMeta_apply]

/-- The accuracy a point contributes. -/
theorem accAt_eq (c : Dev nD) (hB : Good (bitA m c)) (t : Fin cfg0.N) :
    accAt m c t = ((accShare (imgBox (predA m c) (bitA m c) (img t)) : ℝ) : EReal) := by
  unfold accAt
  rw [accB_eq, box_eq m c hB t]

end Cert.KernelIdeal.Value
end
-- ==== Proof.RefDefs.lean ====
/- The reference's terms, named stage by stage as functions of the arguments. -/
module

public import proofs.«01_k».proof.Proof.Gen.ReferenceIdeal.Run
public import proofs.«01_k».proof.Proof.Rows

@[expose] public section

set_option maxRecDepth 16384

noncomputable section

namespace Cert.ReferenceIdeal.Value
open Cert.ReferenceIdeal Cert.ReferenceIdeal.Gen Idealize.ShloMosaic Idealize.ShloMosaic.TcCoe Idealize.SL.Sem

/-- An array of numbers. -/
abbrev FA (S : Shape) := FVec Ideal S .f32
/-- An array of 32-bit integers. -/
abbrev IA (S : Shape) := IVec S 32

/-- Where the ones of each row stand: the head of a stable sort by the negated bit. -/
def posI (B : IA S4x16x64x64) : IA S4x16x8 :=
  extractStridedSlice S4x16x8 ![0, 0, 0] ((Host.sort2 S4x16x4096 2 comparator_i32_i32_d2 (negi (shapeCast _ B shapeCasts_S4x16x64x64_S4x16x4096)) (iotaInDim S4x16x4096 32 2)).2) slices_S4x16x4096_S4x16x8_0_0_0

/-- Where the zeros of each row stand: the head of a stable sort by the bit. -/
def negI (B : IA S4x16x64x64) : IA S4x16x4088 :=
  extractStridedSlice S4x16x4088 ![0, 0, 0] ((Host.sort2 S4x16x4096 2 comparator_i32_i32_d2 (shapeCast _ B shapeCasts_S4x16x64x64_S4x16x4096) (iotaInDim S4x16x4096 32 2)).2) slices_S4x16x4096_S4x16x4088_0_0_0

/-- The predictions at the ones, row by row. -/
def posR (A : FA S4x16x64x64) (B : IA S4x16x64x64) : FA S4x16x8 :=
  Host.gather gather_S4x16x4096_S4x16x8x1_S4x16x8_n_2_01_01_2_3_111 (shapeCast _ A shapeCasts_S4x16x64x64_S4x16x4096) (shapeCast _ (select (cmpi .slt (posI B) (broadcastInDim S4x16x8 ![] bcast_S_S4x16x8 (constantI S_ 32 0#32))) (addi (posI B) (broadcastInDim S4x16x8 ![] bcast_S_S4x16x8 (constantI S_ 32 4096#32))) (posI B)) shapeCasts_S4x16x8_S4x16x8x1)

/-- The predictions at the zeros, row by row. -/
def negR (A : FA S4x16x64x64) (B : IA S4x16x64x64) : FA S4x16x4088 :=
  Host.gather gather_S4x16x4096_S4x16x4088x1_S4x16x4088_n_2_01_01_2_3_111 (shapeCast _ A shapeCasts_S4x16x64x64_S4x16x4096) (shapeCast _ (select (cmpi .slt (negI B) (broadcastInDim S4x16x4088 ![] bcast_S_S4x16x4088 (constantI S_ 32 0#32))) (addi (negI B) (broadcastInDim S4x16x4088 ![] bcast_S_S4x16x4088 (constantI S_ 32 4096#32))) (negI B)) shapeCasts_S4x16x4088_S4x16x4088x1)

/-- The sigmoid of each positive minus each negative. -/
def sigR (A : FA S4x16x64x64) (B : IA S4x16x64x64) : FA S4x16x8x4088 :=
  Host.divf (broadcastInDim S4x16x8x4088 ![] bcast_S_S4x16x8x4088 (constant S_ .f32 0x3F800000#32)) (addf (broadcastInDim S4x16x8x4088 ![] bcast_S_S4x16x8x4088 (constant S_ .f32 0x3F800000#32)) (Host.exp (Host.negf (subf (broadcastInDim S4x16x8x4088 ![0, 1, 2, 3] bcast_S4x16x8x1_S4x16x8x4088_0_1_2_3 (broadcastInDim S4x16x8x1 ![0, 1, 2] bcast_S4x16x8_S4x16x8x1_0_1_2 (posR A B))) (broadcastInDim S4x16x8x4088 ![0, 1, 2, 3] bcast_S4x16x1x4088_S4x16x8x4088_0_1_2_3 (broadcastInDim S4x16x1x4088 ![0, 1, 3] bcast_S4x16x4088_S4x16x1x4088_0_1_3 (negR A B)))))))

/-- Whether the sigmoid is above one half. -/
def bitR (A : FA S4x16x64x64) (B : IA S4x16x64x64) : IVec S4x16x8x4088 1 :=
  cmpf .ogt (sigR A B) (broadcastInDim S4x16x8x4088 ![] bcast_S_S4x16x8x4088 (constant S_ .f32 0x3F000000#32))

/-- The comparisons: twice the sigmoid, less one. -/
def curR (A : FA S4x16x64x64) (B : IA S4x16x64x64) : FA S4x16x8x4088 :=
  subf (mulf (sigR A B) (broadcastInDim S4x16x8x4088 ![] bcast_S_S4x16x8x4088 (constant S_ .f32 0x40000000#32))) (broadcastInDim S4x16x8x4088 ![] bcast_S_S4x16x8x4088 (constant S_ .f32 0x3F800000#32))

/-- The signs of the comparisons. -/
def baseR (A : FA S4x16x64x64) (B : IA S4x16x64x64) : FA S4x16x8x4088 :=
  subf (mulf (uitofp .f32 (bitR A B)) (broadcastInDim S4x16x8x4088 ![] bcast_S_S4x16x8x4088 (constant S_ .f32 0x40000000#32))) (broadcastInDim S4x16x8x4088 ![] bcast_S_S4x16x8x4088 (constant S_ .f32 0x3F800000#32))

/-- The signs with one positive of each row set to one. -/
def pts1R (A : FA S4x16x64x64) (B : IA S4x16x64x64) : FA S4x8x16x8x4088 :=
  select (broadcastInDim S4x8x16x8x4088 ![0, 1, 2, 3, 4] bcast_S4x8x16x8x1_S4x8x16x8x4088_0_1_2_3_4 (cmpi .eq (broadcastInDim S4x8x16x8x1 ![0, 1, 2, 3, 4] bcast_S1x1x1x8x1_S4x8x16x8x1_0_1_2_3_4 (shapeCast _ (iotaInDim S8 32 0) shapeCasts_S8_S1x1x1x8x1)) (broadcastInDim S4x8x16x8x1 ![0, 1, 2, 3, 4] bcast_S4x8x16x1x1_S4x8x16x8x1_0_1_2_3_4 (broadcastInDim S4x8x16x1x1 ![0, 1, 2] bcast_S4x8x16_S4x8x16x1x1_0_1_2 ((fun i => lit0 (S4x8x16.rowMajor i))))))) (broadcastInDim S4x8x16x8x4088 ![] bcast_S_S4x8x16x8x4088 (id (constant S_ .f32 0x3F800000#32))) (broadcastInDim S4x8x16x8x4088 ![0, 1, 2, 3, 4] bcast_S4x1x16x8x4088_S4x8x16x8x4088_0_1_2_3_4 (broadcastInDim S4x1x16x8x4088 ![0, 2, 3, 4] bcast_S4x16x8x4088_S4x1x16x8x4088_0_2_3_4 (baseR A B)))

/-- The signs with one negative of each row set to minus one. -/
def pts2R (A : FA S4x16x64x64) (B : IA S4x16x64x64) : FA S4x8x16x8x4088 :=
  select (broadcastInDim S4x8x16x8x4088 ![0, 1, 2, 3, 4] bcast_S4x8x16x1x4088_S4x8x16x8x4088_0_1_2_3_4 (cmpi .eq (broadcastInDim S4x8x16x1x4088 ![0, 1, 2, 3, 4] bcast_S1x1x1x1x4088_S4x8x16x1x4088_0_1_2_3_4 (shapeCast _ (iotaInDim S4088 32 0) shapeCasts_S4088_S1x1x1x1x4088)) (broadcastInDim S4x8x16x1x4088 ![0, 1, 2, 3, 4] bcast_S4x8x16x1x1_S4x8x16x1x4088_0_1_2_3_4 (broadcastInDim S4x8x16x1x1 ![0, 1, 2] bcast_S4x8x16_S4x8x16x1x1_0_1_2 ((fun i => lit1 (S4x8x16.rowMajor i))))))) (broadcastInDim S4x8x16x8x4088 ![] bcast_S_S4x8x16x8x4088 (id (constant S_ .f32 0xBF800000#32))) (broadcastInDim S4x8x16x8x4088 ![0, 1, 2, 3, 4] bcast_S4x1x16x8x4088_S4x8x16x8x4088_0_1_2_3_4 (broadcastInDim S4x1x16x8x4088 ![0, 2, 3, 4] bcast_S4x16x8x4088_S4x1x16x8x4088_0_2_3_4 (baseR A B)))

/-- The seventeen points made from the signs. -/
def aptsR (A : FA S4x16x64x64) (B : IA S4x16x64x64) : FA S4x17x16x8x4088 :=
  concatenate S4x17x16x8x4088 1 [⟨S4x8x16x8x4088, ((pts1R A B) : (⟨S4x8x16x8x4088, .f32⟩ : BufTy).Contents (Elt Ideal))⟩, ⟨S4x8x16x8x4088, ((pts2R A B) : (⟨S4x8x16x8x4088, .f32⟩ : BufTy).Contents (Elt Ideal))⟩, ⟨S4x1x16x8x4088, ((broadcastInDim S4x1x16x8x4088 ![0, 2, 3, 4] bcast_S4x16x8x4088_S4x1x16x8x4088_0_2_3_4 (baseR A B)) : (⟨S4x1x16x8x4088, .f32⟩ : BufTy).Contents (Elt Ideal))⟩] concatenates_S4x8x16x8x4088_S4x8x16x8x4088_S4x1x16x8x4088_S4x17x16x8x4088_d1

/-- All twenty-two points. -/
def pointsR (A : FA S4x16x64x64) (B : IA S4x16x64x64) (W : FA S4x5x16x8x4088) : FA S4x22x16x8x4088 :=
  concatenate S4x22x16x8x4088 1 [⟨S4x5x16x8x4088, W⟩, ⟨S4x17x16x8x4088, ((aptsR A B))⟩] concatenates_S4x5x16x8x4088_S4x17x16x8x4088_S4x22x16x8x4088_d1

/-- The permutation, as gather indices of the points. -/
def permPtsIdx : IA S4x22x1 :=
  shapeCast _ (select (cmpi .slt (broadcastInDim S4x22x1x1x1 ![0, 1] bcast_S4x22_S4x22x1x1x1_0_1 ((fun i => lit2 (S4x22.rowMajor i)))) (broadcastInDim S4x22x1x1x1 ![] bcast_S_S4x22x1x1x1 (constantI S_ 32 0#32))) (addi (broadcastInDim S4x22x1x1x1 ![0, 1] bcast_S4x22_S4x22x1x1x1_0_1 ((fun i => lit2 (S4x22.rowMajor i)))) (broadcastInDim S4x22x1x1x1 ![] bcast_S_S4x22x1x1x1 (constantI S_ 32 22#32))) (broadcastInDim S4x22x1x1x1 ![0, 1] bcast_S4x22_S4x22x1x1x1_0_1 ((fun i => lit2 (S4x22.rowMajor i))))) shapeCasts_S4x22x1x1x1_S4x22x1

/-- All twenty-two points, permuted. -/
def permPointsR (A : FA S4x16x64x64) (B : IA S4x16x64x64) (W : FA S4x5x16x8x4088) : FA S4x22x16x8x4088 :=
  Host.gather gather_S4x22x16x8x4088_S4x22x1_S4x22x16x8x4088_234_1_0_0_1_2_111684088 (pointsR A B W) permPtsIdx

/-- The squared distances to the permuted points. -/
def disR (A : FA S4x16x64x64) (B : IA S4x16x64x64) (W : FA S4x5x16x8x4088) : FA S4x22 :=
  Host.reduceAdd (mulf (subf (broadcastInDim S4x22x16x8x4088 ![0, 1, 2, 3, 4] bcast_S4x1x16x8x4088_S4x22x16x8x4088_0_1_2_3_4 (broadcastInDim S4x1x16x8x4088 ![0, 2, 3, 4] bcast_S4x16x8x4088_S4x1x16x8x4088_0_2_3_4 (curR A B))) (permPointsR A B W)) (subf (broadcastInDim S4x22x16x8x4088 ![0, 1, 2, 3, 4] bcast_S4x1x16x8x4088_S4x22x16x8x4088_0_1_2_3_4 (broadcastInDim S4x1x16x8x4088 ![0, 2, 3, 4] bcast_S4x16x8x4088_S4x1x16x8x4088_0_2_3_4 (curR A B))) (permPointsR A B W))) (constant S_ .f32 0x00000000#32) reducesTo_S4x22x16x8x4088_S4x22_d2_3_4 h_S_

/-- The accuracies of the seventeen points. -/
def apckR (A : FA S4x16x64x64) (B : IA S4x16x64x64) : FA S4x17 :=
  Host.divf (Host.reduceAdd (addf (Host.divf (Host.reduce FloatOps.maximumf (Host.reduce FloatOps.minimumf ((aptsR A B)) (constant S_ .f32 0x7F800000#32) reducesTo_S4x17x16x8x4088_S4x17x16x8_d4 h_S_) (constant S_ .f32 0xFF800000#32) reducesTo_S4x17x16x8_S4x17x16_d3 h_S_) (broadcastInDim S4x17x16 ![] bcast_S_S4x17x16 (constant S_ .f32 0x40000000#32))) (broadcastInDim S4x17x16 ![] bcast_S_S4x17x16 (constant S_ .f32 0x3F000000#32))) (constant S_ .f32 0x00000000#32) reducesTo_S4x17x16_S4x17_d2 h_S_) (broadcastInDim S4x17 ![] bcast_S_S4x17 (constant S_ .f32 0x41800000#32))

/-- The accuracies of all points, before the permutation. -/
def pckRawR (A : FA S4x16x64x64) (B : IA S4x16x64x64) (Y : FA S4x5) : FA S4x22 :=
  concatenate S4x22 1 [⟨S4x5, Y⟩, ⟨S4x17, (apckR A B)⟩] concatenates_S4x5_S4x17_S4x22_d1

/-- The permutation, as gather indices of the accuracies. -/
def permIdx : IA S4x22x1 :=
  shapeCast _ (select (cmpi .slt ((fun i => lit2 (S4x22.rowMajor i))) (broadcastInDim S4x22 ![] bcast_S_S4x22 (constantI S_ 32 0#32))) (addi ((fun i => lit2 (S4x22.rowMajor i))) (broadcastInDim S4x22 ![] bcast_S_S4x22 (constantI S_ 32 22#32))) ((fun i => lit2 (S4x22.rowMajor i)))) shapeCasts_S4x22_S4x22x1

/-- The accuracies, permuted. -/
def pckR (A : FA S4x16x64x64) (B : IA S4x16x64x64) (Y : FA S4x5) : FA S4x22 :=
  Host.gather gather_S4x22_S4x22x1_S4x22_n_1_0_0_1_2_11 (pckRawR A B Y) permIdx

/-- The weights, from the distances. -/
def weiTail (D : FA S4x22) : FA S22 :=
  Host.divf (broadcastInDim S22 ![] bcast_S_S22 (constant S_ .f32 0x3F800000#32)) (addf (Host.sqrt (Host.reduceAdd D (constant S_ .f32 0x00000000#32) reducesTo_S4x22_S22_d0 h_S_)) (broadcastInDim S22 ![] bcast_S_S22 (constant S_ .f32 0x322BCC77#32)))

/-- The weights of the points. -/
def weiR (A : FA S4x16x64x64) (B : IA S4x16x64x64) (W : FA S4x5x16x8x4088) : FA S22 :=
  weiTail (disR A B W)

/-- The loss, from the weights and the accuracies. -/
def lossTail (G : FA S22) (P : FA S4x22) : FA S1x1 :=
  shapeCast _ (Host.divf (Host.negf (mulf (Host.divf (Host.reduceAdd (mulf G (Host.divf (Host.reduceAdd P (constant S_ .f32 0x00000000#32) reducesTo_S4x22_S22_d0 h_S_) (broadcastInDim S22 ![] bcast_S_S22 (constant S_ .f32 0x40800000#32)))) (constant S_ .f32 0x00000000#32) reducesTo_S22_S_d0 h_S_) (Host.reduceAdd G (constant S_ .f32 0x00000000#32) reducesTo_S22_S_d0 h_S_)) (constant S_ .f32 0x40800000#32))) (constant S_ .f32 0x40800000#32)) shapeCasts_S_S1x1

/-- The first result. -/
def lossR (A : FA S4x16x64x64) (B : IA S4x16x64x64) (W : FA S4x5x16x8x4088) (Y : FA S4x5) : FA S1x1 :=
  lossTail (weiR A B W) (pckR A B Y)

/-- The share of the rows with a positive above every negative: the second result. -/
def accR (A : FA S4x16x64x64) (B : IA S4x16x64x64) : FA S1x1 :=
  shapeCast _ (Host.divf (Host.reduceAdd (Host.divf (sitofp .f32 (Host.reduce IntOp.addi (extui 32 (Host.reduce IntOp.ori (Host.reduce IntOp.andi (bitR A B) (constantI S_ 1 1#1) reducesTo_S4x16x8x4088_S4x16x8_d3 h_S_) (constantI S_ 1 0#1) reducesTo_S4x16x8_S4x16_d2 h_S_) natLt_1_32) (constantI S_ 32 0#32) reducesTo_S4x16_S4_d1 h_S_)) (broadcastInDim S4 ![] bcast_S_S4 (constant S_ .f32 0x41800000#32))) (constant S_ .f32 0x00000000#32) reducesTo_S4_S_d0 h_S_) (constant S_ .f32 0x40800000#32)) shapeCasts_S_S1x1

/-- The mean comparison of the last image: the third result. -/
def meanR (A : FA S4x16x64x64) (B : IA S4x16x64x64) : FA S1x1 :=
  shapeCast _ (Host.divf (Host.reduceAdd (shapeCast _ (extractStridedSlice S1x16x8x4088 ![3, 0, 0, 0] (curR A B) slices_S4x16x8x4088_S1x16x8x4088_3_0_0_0) shapeCasts_S1x16x8x4088_S16x8x4088) (constant S_ .f32 0x00000000#32) reducesTo_S16x8x4088_S_d0_1_2 h_S_) (constant S_ .f32 0x48FF8000#32)) shapeCasts_S_S1x1

variable (m : (ℓ : Loc nD τ sig) → Buf (Elt Ideal) ℓ) (ρ : Dev nD → PrngReg)

/-- The first result's term, staged. -/
theorem res_loss (c : Dev nD) : res_main_v93 m c = lossR (m ((c.tc : Thread nD τ).loc main_arg0)) (m ((c.tc : Thread nD τ).loc main_arg1))
    (m ((c.tc : Thread nD τ).loc main_arg3)) (m ((c.tc : Thread nD τ).loc main_arg4)) := by
  unfold res_main_v93; rfl

/-- The reference's run: the three results are the staged terms of the arguments. -/
theorem run_staged : θ_run defs (onTc (τ := τ) (main (F := Ideal))) ⟨m, fun _ => 0, ρ⟩ fun r => ∀ c : Dev nD,
    r.2.mem ((c.tc : Thread nD τ).loc main_v93) = lossR (m ((c.tc : Thread nD τ).loc main_arg0)) (m ((c.tc : Thread nD τ).loc main_arg1))
      (m ((c.tc : Thread nD τ).loc main_arg3)) (m ((c.tc : Thread nD τ).loc main_arg4))
    ∧ r.2.mem ((c.tc : Thread nD τ).loc main_v96) = accR (m ((c.tc : Thread nD τ).loc main_arg0)) (m ((c.tc : Thread nD τ).loc main_arg1))
    ∧ r.2.mem ((c.tc : Thread nD τ).loc main_v97) = meanR (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨((h c).1).trans (res_loss m c), (h c).2⟩) (run (F := Ideal) m ρ)

end Cert.ReferenceIdeal.Value
end
-- ==== Proof.RefSelect.lean ====
/- The reference's selections: the sorted positions name each row's ones and zeros in order, and the gathers read the
   predictions there. -/
module

public import proofs.«01_k».proof.Proof.RefDefs
public import Idealize.ShloMosaic.Lib.StableHlo.Predicate

@[expose] public section

set_option maxRecDepth 16384

noncomputable section

open Idealize.ShloMosaic Idealize.ShloMosaic.TcCoe

namespace Cert.ReferenceIdeal.Value
open Cert.ReferenceIdeal Cert.ReferenceIdeal.Gen Cert.Scalar Cert.Rows Cert.Rank

/-- The gather at the ones, at an entry: the row's prediction at the clamped index. -/
theorem gather_pos {α : Type} (x : S4x16x4096.Idx → α) (idx : IVec S4x16x8x1 32) (b : Fin 4) (p : Fin 16) (a : Fin 8) :
    Host.gather gather_S4x16x4096_S4x16x8x1_S4x16x8_n_2_01_01_2_3_111 x idx (ix3 b p a)
      = x (ix3 b p ⟨min (idx (ix4 b p a 0)).toInt.toNat 4095, by omega⟩) := by
  unfold Host.gather
  refine congrArg x (funext fun ax => Fin.ext ?_)
  match ax with
  | ⟨0, _⟩ => show 0 + b.val + 0 = b.val; omega
  | ⟨1, _⟩ => show 0 + p.val + 0 = p.val; omega
  | ⟨2, _⟩ =>
    show min (idx _).toInt.toNat 4095 + 0 + 0 = min (idx (ix4 b p a 0)).toInt.toNat 4095
    refine congrArg (fun i => min (idx i).toInt.toNat 4095) (funext fun bx => Fin.ext ?_)
    match bx with
    | ⟨0, _⟩ => rfl
    | ⟨1, _⟩ => rfl
    | ⟨2, _⟩ => rfl
    | ⟨3, _⟩ => rfl

/-- The gather at the zeros, at an entry. -/
theorem gather_neg {α : Type} (x : S4x16x4096.Idx → α) (idx : IVec S4x16x4088x1 32) (b : Fin 4) (p : Fin 16) (a : Fin 4088) :
    Host.gather gather_S4x16x4096_S4x16x4088x1_S4x16x4088_n_2_01_01_2_3_111 x idx (ix3 b p a)
      = x (ix3 b p ⟨min (idx (ix4 b p a 0)).toInt.toNat 4095, by omega⟩) := by
  unfold Host.gather
  refine congrArg x (funext fun ax => Fin.ext ?_)
  match ax with
  | ⟨0, _⟩ => show 0 + b.val + 0 = b.val; omega
  | ⟨1, _⟩ => show 0 + p.val + 0 = p.val; omega
  | ⟨2, _⟩ =>
    show min (idx _).toInt.toNat 4095 + 0 + 0 = min (idx (ix4 b p a 0)).toInt.toNat 4095
    refine congrArg (fun i => min (idx i).toInt.toNat 4095) (funext fun bx => Fin.ext ?_)
    match bx with
    | ⟨0, _⟩ => rfl
    | ⟨1, _⟩ => rfl
    | ⟨2, _⟩ => rfl
    | ⟨3, _⟩ => rfl

/-- The gather of the accuracies by the permutation, at an entry. -/
theorem gather_perm {α : Type} (x : S4x22.Idx → α) (idx : IVec S4x22x1 32) (b : Fin 4) (k : Fin 22) :
    Host.gather gather_S4x22_S4x22x1_S4x22_n_1_0_0_1_2_11 x idx (ix2 b k)
      = x (ix2 b ⟨min (idx (ix3 b k 0)).toInt.toNat 21, by omega⟩) := by
  unfold Host.gather
  refine congrArg x (funext fun ax => Fin.ext ?_)
  match ax with
  | ⟨0, _⟩ => show 0 + b.val + 0 = b.val; omega
  | ⟨1, _⟩ =>
    show min (idx _).toInt.toNat 21 + 0 + 0 = min (idx (ix3 b k 0)).toInt.toNat 21
    refine congrArg (fun i => min (idx i).toInt.toNat 21) (funext fun bx => Fin.ext ?_)
    match bx with
    | ⟨0, _⟩ => rfl
    | ⟨1, _⟩ => rfl
    | ⟨2, _⟩ => rfl

/-- The gather of the points by the permutation, at an entry. -/
theorem gather_points {α : Type} (x : S4x22x16x8x4088.Idx → α) (idx : IVec S4x22x1 32) (b : Fin 4) (k : Fin 22)
    (p : Fin 16) (a : Fin 8) (c : Fin 4088) :
    Host.gather gather_S4x22x16x8x4088_S4x22x1_S4x22x16x8x4088_234_1_0_0_1_2_111684088 x idx (ix5 b k p a c)
      = x (ix5 b ⟨min (idx (ix3 b k 0)).toInt.toNat 21, by omega⟩ p a c) := by
  unfold Host.gather
  refine congrArg x (funext fun ax => Fin.ext ?_)
  match ax with
  | ⟨0, _⟩ => show 0 + b.val + 0 = b.val; omega
  | ⟨1, _⟩ =>
    show min (idx _).toInt.toNat 21 + 0 + 0 = min (idx (ix3 b k 0)).toInt.toNat 21
    refine congrArg (fun i => min (idx i).toInt.toNat 21) (funext fun bx => Fin.ext ?_)
    match bx with
    | ⟨0, _⟩ => rfl
    | ⟨1, _⟩ => rfl
    | ⟨2, _⟩ => rfl
  | ⟨2, _⟩ => show 0 + 0 + p.val = p.val; omega
  | ⟨3, _⟩ => show 0 + 0 + a.val = a.val; omega
  | ⟨4, _⟩ => show 0 + 0 + c.val = c.val; omega

/-- An index that is no larger than the last is read as it is, wrapped or not. -/
theorem wrap_small (v k : ℕ) (i w : BitVec 32) (hi : i = BitVec.ofNat 32 v) (hv : v ≤ k) (hk : k < 2 ^ 31) :
    min (Scalar.select (IntOp.cmpi .slt i 0#32) w i).toInt.toNat k = v := by
  subst hi
  have h1 : (BitVec.ofNat 32 v).toInt = v := StableHlo.Predicate.toInt_ofNat_small v (by omega)
  have h2 : IntOp.cmpi .slt (BitVec.ofNat 32 v) 0#32 = 0#1 := by
    show BitVec.ofBool (BitVec.slt _ _) = _
    rw [BitVec.slt, h1, decide_eq_false (by simp)]; rfl
  rw [h2]
  show min (BitVec.ofNat 32 v).toInt.toNat k = v
  rw [h1]; simp [hv]

/-- A sort along the last of three axes, at an entry of its second output. -/
theorem sort2_last {α β : Type} {g r n : ℕ} (cmp : α × β → α × β → BitVec 1) (x : (⟨3, ![g, r, n]⟩ : Shape).Idx → α)
    (y : (⟨3, ![g, r, n]⟩ : Shape).Idx → β) (b : Fin g) (p : Fin r) (s : Fin n) :
    (Host.sort2 ⟨3, ![g, r, n]⟩ 2 cmp x y).2 (ix3 b p s)
      = y (ix3 b p (sortedFrom (fun k k' : Fin n => cmp (x (ix3 b p k), y (ix3 b p k)) (x (ix3 b p k'), y (ix3 b p k')) == 1#1) s)) := by
  have e : ∀ t : Fin n, (ix3 b p s : (⟨3, ![g, r, n]⟩ : Shape).Idx).along 2 t = ix3 b p t := fun t => by
    funext ax
    match ax with
    | ⟨0, _⟩ => rfl
    | ⟨1, _⟩ => rfl
    | ⟨2, _⟩ => rfl
  have h : (Host.sort2 ⟨3, ![g, r, n]⟩ 2 cmp x y).2 (ix3 b p s)
    = (fun al : Fin n → (⟨3, ![g, r, n]⟩ : Shape).Idx => y (al (sortedFrom (fun k k' : Fin n =>
      cmp (x (al k), y (al k)) (x (al k'), y (al k')) == 1#1) s))) (fun t => (ix3 b p s : (⟨3, ![g, r, n]⟩ : Shape).Idx).along 2 t) := rfl
  rw [h, show (fun t : Fin n => (ix3 b p s : (⟨3, ![g, r, n]⟩ : Shape).Idx).along 2 t) = fun t => ix3 b p t from funext e]

/-- A row's sorted positions, where the comparison puts one class of pixels first. -/
theorem sort_apply {n : ℕ} (x y : IVec ⟨3, ![4, 16, n]⟩ 32) (q : ℕ → Prop) [DecidablePred q] (b : Fin 4) (p : Fin 16) (s : Fin n)
    (hy : ∀ s : Fin n, y (ix3 b p s) = BitVec.ofNat 32 s.val)
    (hx : ∀ s t : Fin n, (IntOp.cmpi .slt (x (ix3 b p s)) (x (ix3 b p t)) == 1#1) = (decide (q s.val) && !decide (q t.val)))
    (hs : s.val < Nat.count q n) :
    (Host.sort2 ⟨3, ![4, 16, n]⟩ 2 comparator_i32_i32_d2 x y).2 (ix3 b p s) = BitVec.ofNat 32 (nth q s.val) := by
  rw [sort2_last, hy]
  exact congrArg (BitVec.ofNat 32) (sortedFrom_nth q _ hx s hs)

/-- The ones' positions: the `a`-th entry is the row's `a`-th one. -/
theorem posI_apply (B : IVec S4x16x64x64 32) (hB : Good B) (b : Fin 4) (p : Fin 16) (a : Fin 8) :
    posI B (ix3 b p a) = BitVec.ofNat 32 (nth (ones B b p) a.val) := by
  pointwise [posI]
  refine sort_apply _ _ (ones B b p) b p ⟨a.val, by omega⟩ (fun s => rfl) (fun s t => ?_) (by rw [(hB b p).2]; exact a.isLt)
  have h1 := (hB b p).1 s
  have h2 := (hB b p).1 t
  have e1 := ones_iff B b p s
  have e2 := ones_iff B b p t
  unfold pix at h1 h2 e1 e2
  pointwise
  simp only [e1, e2]
  rcases h1 with h1 | h1 <;> rcases h2 with h2 | h2 <;> rw [h1, h2] <;> rfl

/-- The zeros' positions: the `c`-th entry is the row's `c`-th zero. -/
theorem negI_apply (B : IVec S4x16x64x64 32) (hB : Good B) (b : Fin 4) (p : Fin 16) (c : Fin 4088) :
    negI B (ix3 b p c) = BitVec.ofNat 32 (nth (fun s => ¬ones B b p s) c.val) := by
  pointwise [negI]
  refine sort_apply _ _ (fun s => ¬ones B b p s) b p ⟨c.val, by omega⟩ (fun s => rfl) (fun s t => ?_)
    (by rw [count_zeros hB]; exact c.isLt)
  have h1 := (hB b p).1 s
  have h2 := (hB b p).1 t
  have e1 := ones_iff B b p s
  have e2 := ones_iff B b p t
  unfold pix at h1 h2 e1 e2
  pointwise
  simp only [e1, e2]
  rcases h1 with h1 | h1 <;> rcases h2 with h2 | h2 <;> rw [h1, h2] <;> rfl

/-- The predictions at the ones. -/
theorem posR_apply (A : FVec Ideal S4x16x64x64 .f32) (B : IVec S4x16x64x64 32) (hB : Good B) (b : Fin 4) (p : Fin 16) (a : Fin 8) :
    posR A B (ix3 b p a) = predN A b p (nth (ones B b p) a.val) := by
  have h := posI_apply B hB b p a
  have hn := (one_spec hB b p a).1
  unfold posR
  rw [gather_pos]
  generalize posI B = I at h ⊢
  pointwise
  unfold predN
  rw [dif_pos hn]
  have hw := wrap_small _ 4095 _ (IntOp.addi (I (ix3 b p a)) 4096#32) h (by omega) (by omega)
  refine congrArg A ?_
  unfold pix
  congr 1
  · exact Fin.ext (congrArg (· / 64) hw)
  · exact Fin.ext (congrArg (· % 64) hw)

/-- The predictions at the zeros. -/
theorem negR_apply (A : FVec Ideal S4x16x64x64 .f32) (B : IVec S4x16x64x64 32) (hB : Good B) (b : Fin 4) (p : Fin 16) (c : Fin 4088) :
    negR A B (ix3 b p c) = predN A b p (nth (fun s => ¬ones B b p s) c.val) := by
  have h := negI_apply B hB b p c
  have hn := (zero_spec hB b p c).1
  unfold negR
  rw [gather_neg]
  generalize negI B = I at h ⊢
  pointwise
  unfold predN
  rw [dif_pos hn]
  have hw := wrap_small _ 4095 _ (IntOp.addi (I (ix3 b p c)) 4096#32) h (by omega) (by omega)
  refine congrArg A ?_
  unfold pix
  congr 1
  · exact Fin.ext (congrArg (· / 64) hw)
  · exact Fin.ext (congrArg (· % 64) hw)

end Cert.ReferenceIdeal.Value
end
-- ==== Proof.RefBox.lean ====
/- The reference's comparisons, signs and points at an entry. -/
module

public import proofs.«01_k».proof.Proof.RefSelect
public import proofs.«01_k».proof.Proof.Tables

@[expose] public section

set_option maxRecDepth 16384

noncomputable section

open Idealize.ShloMosaic Idealize.ShloMosaic.TcCoe

namespace Cert.ReferenceIdeal.Value
open Cert.ReferenceIdeal Cert.ReferenceIdeal.Gen Cert.Scalar Cert.Rows Cert.Rank

/-- Where an entry of a table of draws is stored. -/
theorem table_index (b : Fin 4) (k : Fin 8) (p : Fin 16) :
    S4x8x16.rowMajor (ix3 b k p) = (⟨(b.val * 8 + k.val) * 16 + p.val, by omega⟩ : Fin 512) :=
  Fin.ext ((Idealize.ShloMosaic.rowMajor_val3 _ 128 16 rfl rfl).trans (by
    show b.val * 128 + k.val * 16 + p.val = (b.val * 8 + k.val) * 16 + p.val
    omega))

/-- Two small words are equal where the numbers are. -/
theorem eq_small (x y : ℕ) (hx : x < 2 ^ 32) (hy : y < 2 ^ 32) :
    IntOp.cmpi .eq (BitVec.ofNat 32 x) (BitVec.ofNat 32 y) = BitVec.ofBool (decide (x = y)) := by
  show BitVec.ofBool (BitVec.ofNat 32 x == BitVec.ofNat 32 y) = _
  refine congrArg BitVec.ofBool ?_
  rw [Bool.eq_iff_iff, beq_iff_eq, decide_eq_true_eq, ← BitVec.toNat_inj, BitVec.toNat_ofNat, BitVec.toNat_ofNat,
    Nat.mod_eq_of_lt hx, Nat.mod_eq_of_lt hy]

variable (A : FVec Ideal S4x16x64x64 .f32) (B : IVec S4x16x64x64 32) (hB : Good B) (b : Fin 4) (p : Fin 16) (a : Fin 8) (c : Fin 4088)
include hB

/-- The sigmoid of the `a`-th positive minus the `c`-th negative. -/
theorem sigR_apply : sigR A B (ix4 b p a c)
    = Ideal.logistic (predN A b p (nth (ones B b p) a.val) - predN A b p (nth (fun s => ¬ones B b p s) c.val)) := by
  have h1 := posR_apply A B hB b p a
  have h2 := negR_apply A B hB b p c
  unfold sigR
  generalize posR A B = P at h1 ⊢
  generalize negR A B = N at h2 ⊢
  pointwise
  rw [h1, h2]; rfl

/-- The comparison. -/
theorem curR_apply : curR A B (ix4 b p a c) = ((imgBox A B b p a c : ℝ) : EReal) := by
  have h := sigR_apply A B hB b p a c
  unfold curR
  generalize sigR A B = S at h ⊢
  pointwise
  rw [h, ofBits_two]
  exact sigmoid_eq _

/-- The bit: set where the comparison is positive. -/
theorem bitR_apply : bitR A B (ix4 b p a c) = BitVec.ofBool (decide (0 < imgBox A B b p a c)) := by
  have h := sigR_apply A B hB b p a c
  unfold bitR
  generalize sigR A B = S at h ⊢
  pointwise
  rw [h, ofBits_half]
  exact congrArg BitVec.ofBool (decide_eq_decide.mpr (half_lt_sigmoid _))

/-- The sign. -/
theorem baseR_apply : baseR A B (ix4 b p a c) = ((sgn (imgBox A B b p a c) : ℝ) : EReal) := by
  have h := bitR_apply A B hB b p a c
  unfold baseR
  generalize bitR A B = S at h ⊢
  pointwise
  rw [h, ofBits_two]
  unfold sgn
  by_cases h0 : 0 < imgBox A B b p a c
  · rw [decide_eq_true h0, if_pos h0]
    show ((((1 : ℕ) : ℝ)) : EReal) * ((2 : ℝ) : EReal) - 1 = _
    rw [← EReal.coe_mul, ← EReal.coe_one, ← EReal.coe_sub]
    norm_num
  · rw [decide_eq_false h0, if_neg h0]
    show ((((0 : ℕ) : ℝ)) : EReal) * ((2 : ℝ) : EReal) - 1 = _
    rw [← EReal.coe_mul, ← EReal.coe_one, ← EReal.coe_sub]
    norm_num

/-- The points with a row set. -/
theorem pts1R_apply (k : Fin 8) : pts1R A B (ix5 b k p a c) = ((rowBox (imgBox A B b) (Tables.r1 b k) p a c : ℝ) : EReal) := by
  have h := baseR_apply A B hB b p a c
  unfold pts1R
  generalize baseR A B = S at h ⊢
  pointwise
  rw [h, table_index b k p, Tables.ref_r1, eq_small _ _ (by omega) (by omega)]
  unfold rowBox
  by_cases h0 : a = Tables.r1 b k p
  · rw [decide_eq_true (congrArg Fin.val h0), if_pos h0, EReal.coe_one]
    exact Ideal.ofBits_one_f32
  · rw [decide_eq_false (fun e => h0 (Fin.ext e)), if_neg h0]
    rfl

/-- The points with a column set. -/
theorem pts2R_apply (k : Fin 8) : pts2R A B (ix5 b k p a c) = ((colBox (imgBox A B b) (Tables.r2 b k) p a c : ℝ) : EReal) := by
  have h := baseR_apply A B hB b p a c
  unfold pts2R
  generalize baseR A B = S at h ⊢
  pointwise
  rw [h, table_index b k p, Tables.ref_r2, eq_small _ _ (by omega) (by omega)]
  unfold colBox
  by_cases h0 : c = Tables.r2 b k p
  · rw [decide_eq_true (congrArg Fin.val h0), if_pos h0]
    exact ofBits_neg_one
  · rw [decide_eq_false (fun e => h0 (Fin.ext e)), if_neg h0]
    rfl

/-- The seventeen points made from the signs. -/
def signPt (u : Box) (r1 : Fin 8 → Fin 16 → Fin 8) (r2 : Fin 8 → Fin 16 → Fin 4088) (x : Fin 17) : Box :=
  if h : x.val < 8 then rowBox u (r1 ⟨x.val, h⟩) else if h : x.val < 16 then colBox u (r2 ⟨x.val - 8, by omega⟩) else signBox u

/-- The points made from the signs, at an entry. -/
theorem aptsR_apply (x : Fin 17) : aptsR A B (ix5 b x p a c)
    = ((signPt (imgBox A B b) (Tables.r1 b) (Tables.r2 b) x p a c : ℝ) : EReal) := by
  have h1 := pts1R_apply A B hB b p a c
  have h2 := pts2R_apply A B hB b p a c
  have h3 := baseR_apply A B hB b p a c
  unfold aptsR
  generalize pts1R A B = S at h1 ⊢
  generalize pts2R A B = T at h2 ⊢
  generalize baseR A B = U at h3 ⊢
  pointwise
  unfold signPt
  by_cases h : x.val < 8
  · rw [dif_pos h, dif_pos h]; exact h1 _
  · rw [dif_neg h, dif_neg h]
    by_cases h' : x.val < 16
    · rw [dif_pos h', dif_pos (by omega)]; exact h2 _
    · rw [dif_neg h', dif_neg (by omega)]; exact h3

end Cert.ReferenceIdeal.Value
end
-- ==== Proof.RefDist.lean ====
/- The reference's distances: at an image and a point, the squared distance of the image's comparisons to the point. -/
module

public import proofs.«01_k».proof.Proof.RefBox

@[expose] public section

set_option maxRecDepth 16384

noncomputable section

open Idealize.ShloMosaic Idealize.ShloMosaic.TcCoe

namespace Cert.ReferenceIdeal.Value
open Cert.ReferenceIdeal Cert.ReferenceIdeal.Gen Cert.Scalar Cert.Rows Cert.Rank

/-- Image `b`'s stored boxes. -/
def metaR (W : FVec Ideal S4x5x16x8x4088 .f32) (b : Fin 4) (x : Fin 5) (p : Fin 16) (a : Fin 8) (c : Fin 4088) : EReal :=
  W (ix5 b x p a c)

/-- A sum of squared differences of real boxes is their squared distance. -/
theorem coe_sqDist (u w : Box) :
    ∑ p, ∑ a, ∑ c, (((u p a c : ℝ) : EReal) - ((w p a c : ℝ) : EReal)) * (((u p a c : ℝ) : EReal) - ((w p a c : ℝ) : EReal))
      = ((sqDist u w : ℝ) : EReal) := by
  unfold sqDist
  rw [← coe_sum]
  refine Finset.sum_congr rfl fun p _ => ?_
  rw [← coe_sum]
  refine Finset.sum_congr rfl fun a _ => ?_
  rw [← coe_sum]
  refine Finset.sum_congr rfl fun c _ => ?_
  rw [EReal.coe_mul, EReal.coe_sub]

/-- Where an entry of the permutation table is stored. -/
theorem perm_index (b : Fin 4) (k : Fin 22) : S4x22.rowMajor (ix2 b k) = (⟨b.val * 22 + k.val, by omega⟩ : Fin 88) :=
  Fin.ext (Idealize.ShloMosaic.rowMajor_val2 _ 22 rfl)

/-- The permutation's index of a place. -/
theorem permIdx_apply (b : Fin 4) (k : Fin 22) : min (permIdx (ix3 b k 0)).toInt.toNat 21 = (Tables.perm b k).val := by
  unfold permIdx
  pointwise
  exact wrap_small _ 21 _ _ ((congrArg lit2 (perm_index b k)).trans (Tables.ref_perm b k)) (by omega) (by omega)

/-- The permutation's index of a place, as the points are gathered by it. -/
theorem permPtsIdx_apply (b : Fin 4) (k : Fin 22) : min (permPtsIdx (ix3 b k 0)).toInt.toNat 21 = (Tables.perm b k).val := by
  unfold permPtsIdx
  pointwise
  exact wrap_small _ 21 _ _ ((congrArg lit2 (perm_index b k)).trans (Tables.ref_perm b k)) (by omega) (by omega)

variable (A : FVec Ideal S4x16x64x64 .f32) (B : IVec S4x16x64x64 32) (hB : Good B) (W : FVec Ideal S4x5x16x8x4088 .f32)
  (Y : FVec Ideal S4x5 .f32) (b : Fin 4)
include hB

/-- The points, at an entry: the stored boxes, then those made from the signs. -/
theorem pointsR_apply (x : Fin 22) (p : Fin 16) (a : Fin 8) (c : Fin 4088) : pointsR A B W (ix5 b x p a c)
    = if h : x.val < 5 then metaR W b ⟨x.val, h⟩ p a c
      else ((signPt (imgBox A B b) (Tables.r1 b) (Tables.r2 b) ⟨x.val - 5, by omega⟩ p a c : ℝ) : EReal) := by
  have h1 := fun x => aptsR_apply A B hB b p a c x
  unfold pointsR
  generalize aptsR A B = S at h1 ⊢
  pointwise
  by_cases h : x.val < 5
  · rw [dif_pos h, dif_pos h]; rfl
  · rw [dif_neg h, dif_neg h]; exact h1 _

/-- The points in the order of the permutation. -/
theorem permPointsR_apply (k : Fin 22) (p : Fin 16) (a : Fin 8) (c : Fin 4088) :
    permPointsR A B W (ix5 b k p a c) = pointsR A B W (ix5 b (Tables.perm b k) p a c) := by
  unfold permPointsR
  rw [gather_points]
  exact congrArg (fun i => pointsR A B W (ix5 b i p a c)) (Fin.ext (permPtsIdx_apply b k))

/-- The squared distances to the permuted points. -/
theorem disR_apply (k : Fin 22) : disR A B W (ix2 b k)
    = disPt (imgBox A B b) (metaR W b) (Tables.r1 b) (Tables.r2 b) (Tables.perm b k) := by
  have h1 := fun p a c => (permPointsR_apply A B hB W b k p a c).trans (pointsR_apply A B hB W b (Tables.perm b k) p a c)
  have h2 := fun p a c => curR_apply A B hB b p a c
  unfold disR
  generalize permPointsR A B W = P at h1 ⊢
  generalize curR A B = C at h2 ⊢
  pointwise
  simp only [h1, h2]
  generalize Tables.perm b k = x
  unfold disPt
  by_cases h5 : x.val < 5
  · simp only [dif_pos h5]
    rfl
  · simp only [dif_neg h5]
    rw [coe_sqDist]
    unfold signPt
    by_cases h13 : x.val < 13
    · rw [dif_pos h13, dif_pos (show x.val - 5 < 8 by omega)]
    · rw [dif_neg h13, dif_neg (show ¬ x.val - 5 < 8 by omega)]
      by_cases h21 : x.val < 21
      · rw [dif_pos h21, dif_pos (show x.val - 5 < 16 by omega)]
        simp only [Nat.sub_sub]
      · rw [dif_neg h21, dif_neg (show ¬ x.val - 5 < 16 by omega)]

end Cert.ReferenceIdeal.Value
end
-- ==== Proof.RefAcc.lean ====
/- The reference's accuracies: at an image and a point, the share of rows with a positive above every negative. -/
module

public import proofs.«01_k».proof.Proof.RefDist

@[expose] public section

set_option maxRecDepth 16384

noncomputable section

open Idealize.ShloMosaic Idealize.ShloMosaic.TcCoe

namespace Cert.ReferenceIdeal.Value
open Cert.ReferenceIdeal Cert.ReferenceIdeal.Gen Cert.Scalar Cert.Rows Cert.Rank

open Classical in
/-- The largest row minimum of an array of signs: one where some row is all ones, else minus one. -/
theorem max_min_signs {n k : ℕ} (v : Fin n → Fin k → ℝ) (hv : ∀ a c, v a c = 1 ∨ v a c = -1) (hn : 0 < n) (hk : 0 < k) :
    Finset.fold max (⊥ : EReal) (fun a => Finset.fold min (⊤ : EReal) (fun c => ((v a c : ℝ) : EReal)) Finset.univ) Finset.univ
      = (((if ∃ a, ∀ c, v a c = 1 then 1 else -1 : ℝ)) : EReal) := by
  have hle : ∀ a c, ((v a c : ℝ) : EReal) ≤ ((1 : ℝ) : EReal) := fun a c => by
    rw [EReal.coe_le_coe_iff]; rcases hv a c with h | h <;> rw [h]; norm_num
  have hge : ∀ a c, ((-1 : ℝ) : EReal) ≤ ((v a c : ℝ) : EReal) := fun a c => by
    rw [EReal.coe_le_coe_iff]; rcases hv a c with h | h <;> rw [h]; norm_num
  show Finset.univ.sup (fun a => Finset.univ.inf fun c => ((v a c : ℝ) : EReal)) = _
  have hrow : ∀ a, (Finset.univ.inf fun c => ((v a c : ℝ) : EReal)) = (((if ∀ c, v a c = 1 then 1 else -1 : ℝ)) : EReal) := by
    intro a
    by_cases h : ∀ c, v a c = 1
    · rw [if_pos h]
      apply le_antisymm
      · exact (Finset.inf_le (Finset.mem_univ (⟨0, hk⟩ : Fin k))).trans (hle a _)
      · exact Finset.le_inf fun c _ => by rw [h c]
    · rw [if_neg h]
      push Not at h
      obtain ⟨c, hc⟩ := h
      apply le_antisymm
      · exact (Finset.inf_le (Finset.mem_univ c)).trans (by rw [(hv a c).resolve_left hc])
      · exact Finset.le_inf fun c _ => hge a c
  simp only [hrow]
  by_cases h : ∃ a, ∀ c, v a c = 1
  · rw [if_pos h]
    obtain ⟨a, ha⟩ := h
    apply le_antisymm
    · refine Finset.sup_le fun a _ => ?_
      rw [EReal.coe_le_coe_iff]; split_ifs <;> norm_num
    · refine le_trans ?_ (Finset.le_sup (Finset.mem_univ a))
      rw [if_pos ha]
  · rw [if_neg h]
    push Not at h
    have h' : ∀ a, ¬ ∀ c, v a c = 1 := fun a hh => by obtain ⟨c, hc⟩ := h a; exact hc (hh c)
    apply le_antisymm
    · exact Finset.sup_le fun a _ => by rw [if_neg (h' a)]
    · refine le_trans ?_ (Finset.le_sup (Finset.mem_univ (⟨0, hn⟩ : Fin n)))
      rw [if_neg (h' _)]

theorem sgn_cases (u : ℝ) : sgn u = 1 ∨ sgn u = -1 := by unfold sgn; split_ifs; exacts [Or.inl rfl, Or.inr rfl]

theorem sgn_eq_one (u : ℝ) : sgn u = 1 ↔ 0 < u := by
  unfold sgn; split_ifs with h
  · exact ⟨fun _ => h, fun _ => rfl⟩
  · exact ⟨fun h' => by norm_num at h', fun h' => absurd h' h⟩

/-- Every point made from the signs is an array of signs. -/
theorem signPt_cases (u : Box) (r1 : Fin 8 → Fin 16 → Fin 8) (r2 : Fin 8 → Fin 16 → Fin 4088) (x : Fin 17) (p : Fin 16)
    (a : Fin 8) (c : Fin 4088) : signPt u r1 r2 x p a c = 1 ∨ signPt u r1 r2 x p a c = -1 := by
  have h1 : ∀ r, rowBox u r p a c = 1 ∨ rowBox u r p a c = -1 := fun r => by
    unfold rowBox; split_ifs; exacts [Or.inl rfl, sgn_cases _]
  have h2 : ∀ r, colBox u r p a c = 1 ∨ colBox u r p a c = -1 := fun r => by
    unfold colBox; split_ifs; exacts [Or.inr rfl, sgn_cases _]
  unfold signPt
  split_ifs
  exacts [h1 _, h2 _, sgn_cases _]

variable (A : FVec Ideal S4x16x64x64 .f32) (B : IVec S4x16x64x64 32) (hB : Good B) (Y : FVec Ideal S4x5 .f32) (b : Fin 4)
include hB

open Classical in
/-- The accuracy of a point made from the signs: the share of rows with an all-ones positive. -/
theorem apckR_apply (x : Fin 17) : apckR A B (ix2 b x)
    = (((∑ p, if ∃ a, ∀ c, signPt (imgBox A B b) (Tables.r1 b) (Tables.r2 b) x p a c = 1 then (1 : ℝ) else 0) * (1 / 16) : ℝ) : EReal) := by
  have h1 := fun p a c => aptsR_apply A B hB b p a c x
  have h2 := fun p a c => signPt_cases (imgBox A B b) (Tables.r1 b) (Tables.r2 b) x p a c
  unfold apckR
  generalize aptsR A B = S at h1 ⊢
  generalize signPt (imgBox A B b) (Tables.r1 b) (Tables.r2 b) x = V at h1 h2 ⊢
  pointwise
  simp only [h1]
  rw [ofBits_sixteen, ofBits_bot, ofBits_top, ofBits_two, ofBits_half, Ideal.div_coe (by norm_num), EReal.coe_mul, ← coe_sum]
  refine congrArg (· * _) (Finset.sum_congr rfl fun p _ => ?_)
  rw [max_min_signs (V p) (h2 p) (by norm_num) (by norm_num), Ideal.div_coe (by norm_num), ← EReal.coe_mul, ← EReal.coe_add]
  refine congrArg _ ?_
  split_ifs <;> norm_num

/-- The accuracies before the permutation. -/
theorem pckRawR_apply (x : Fin 22) : pckRawR A B Y (ix2 b x) = pckPt (imgBox A B b) (fun j => Y (ix2 b j)) x := by
  have h1 := fun x => apckR_apply A B hB b x
  unfold pckRawR
  generalize apckR A B = S at h1 ⊢
  pointwise
  unfold pckPt
  by_cases h5 : x.val < 5
  · rw [dif_pos h5, dif_pos h5]
  · rw [dif_neg h5, dif_neg h5, h1]
    unfold signPt
    by_cases h13 : x.val < 13
    · rw [if_pos h13, dif_pos (show x.val - 5 < 8 by omega), ← EReal.coe_one]
      refine congrArg _ ?_
      have h : ∀ p, ∃ a, ∀ c, rowBox (imgBox A B b) (Tables.r1 b ⟨x.val - 5, by omega⟩) p a c = 1 := fun p =>
        ⟨Tables.r1 b ⟨x.val - 5, by omega⟩ p, fun c => if_pos rfl⟩
      simp only [h, if_true, Finset.sum_const, Finset.card_univ, Fintype.card_fin]
      norm_num
    · rw [if_neg h13, dif_neg (show ¬ x.val - 5 < 8 by omega)]
      by_cases h21 : x.val < 21
      · rw [if_pos h21, dif_pos (show x.val - 5 < 16 by omega), ← EReal.coe_zero]
        refine congrArg _ ?_
        have h : ∀ p, ¬ ∃ a, ∀ c, colBox (imgBox A B b) (Tables.r2 b ⟨x.val - 5 - 8, by omega⟩) p a c = 1 := fun p ⟨a, ha⟩ => by
          have := ha (Tables.r2 b ⟨x.val - 5 - 8, by omega⟩ p)
          unfold colBox at this
          rw [if_pos rfl] at this
          norm_num at this
        simp only [h, if_false, Finset.sum_const_zero, zero_mul]
      · rw [if_neg h21, dif_neg (show ¬ x.val - 5 < 16 by omega)]
        refine congrArg _ ?_
        unfold accShare
        refine congrArg (· * (1 / 16 : ℝ)) (Finset.sum_congr rfl fun p _ => ?_)
        refine if_congr (exists_congr fun a => forall_congr' fun c => ?_) rfl rfl
        exact sgn_eq_one _

/-- The accuracies, permuted. -/
theorem pckR_apply (k : Fin 22) : pckR A B Y (ix2 b k) = pckPt (imgBox A B b) (fun j => Y (ix2 b j)) (Tables.perm b k) := by
  unfold pckR
  rw [gather_perm, ← pckRawR_apply A B hB]
  exact congrArg (fun i => pckRawR A B Y (ix2 b i)) (Fin.ext (permIdx_apply b k))

end Cert.ReferenceIdeal.Value
end
-- ==== Proof.Pre.lean ====
/- The precondition, read in the rows: every row holds zeros and ones, eight of them ones. -/
module

public import proofs.«01_k».proof.Proof.Gen.Pre_eight_ones
public import proofs.«01_k».proof.Proof.Rows
public import Idealize.ShloMosaic.Lib.StableHlo.Predicate

@[expose] public section

set_option maxRecDepth 16384

noncomputable section

open Idealize.ShloMosaic

namespace Cert.Rows
open Cert.Scalar Cert.Rank

/-- A conjunction of bits holds where each bit does. -/
theorem fold_andi {ι : Type} (s : Finset ι) (p : ι → BitVec 1) :
    Finset.fold IntOp.andi (1#1) p s = 1#1 ↔ ∀ x ∈ s, p x = 1#1 := by
  classical
  induction s using Finset.induction_on with
  | empty => simp
  | insert a s ha ih =>
    rw [Finset.fold_insert ha, Finset.forall_mem_insert, ← ih]
    have h : ∀ x y : BitVec 1, IntOp.andi x y = 1#1 ↔ x = 1#1 ∧ y = 1#1 := by decide
    exact h _ _

/-- A conjunction of two bits holds where both do. -/
theorem andi_one (x y : BitVec 1) : IntOp.andi x y = 1#1 ↔ x = 1#1 ∧ y = 1#1 := by revert x y; decide
/-- A disjunction of two bits holds where one does. -/
theorem ori_one (x y : BitVec 1) : IntOp.ori x y = 1#1 ↔ x = 1#1 ∨ y = 1#1 := by revert x y; decide

/-- A count is a sum of ones. -/
theorem count_eq_sum (q : ℕ → Prop) [DecidablePred q] (n : ℕ) :
    Nat.count q n = ∑ s : Fin n, if q s.val then 1 else 0 := by
  induction n with
  | zero => rfl
  | succ n ih => rw [Nat.count_succ, Fin.sum_univ_castSucc, ih]; rfl

variable (a0 : FVec Ideal Cert.Pre_eight_ones.S4x16x64x64 .f32) (B : IVec Cert.Pre_eight_ones.S4x16x64x64 32)
  (a2 : FVec Ideal Cert.Pre_eight_ones.S4x16x2 .f32) (a3 : FVec Ideal Cert.Pre_eight_ones.S4x5x16x8x4088 .f32)
  (a4 : FVec Ideal Cert.Pre_eight_ones.S4x5 .f32)

open Cert.Pre_eight_ones in
/-- Under the precondition every row is good. -/
theorem good_of_pre (h : Cert.Pre_eight_ones.fn (F := Ideal) a0 B a2 a3 a4 = fun _ => 1#1) : Good B := by
  have h0 := congrFun h ix0
  rw [show Cert.Pre_eight_ones.fn (F := Ideal) a0 B a2 a3 a4 ix0
    = IntOp.andi _ _ from rfl, andi_one] at h0
  obtain ⟨h1, h2⟩ := h0
  pointwise at h1 h2
  rw [fold_andi] at h1 h2
  intro b p
  have e : ∀ s : Fin 4096, (ix4 (⟨(b.val * 16 + p.val) / 16, by omega⟩ : Fin 4) (⟨(b.val * 16 + p.val) % 16, by omega⟩ : Fin 16)
      (⟨s.val / 64, by omega⟩ : Fin 64) (⟨s.val % 64, by omega⟩ : Fin 64)) = pix b p s := by
    intro s
    unfold pix
    rw [show (⟨(b.val * 16 + p.val) / 16, by omega⟩ : Fin 4) = b from Fin.ext (by show (b.val * 16 + p.val) / 16 = b.val; omega),
      show (⟨(b.val * 16 + p.val) % 16, by omega⟩ : Fin 16) = p from Fin.ext (by show (b.val * 16 + p.val) % 16 = p.val; omega)]
  have hbit : ∀ s, B (pix b p s) = 0#32 ∨ B (pix b p s) = 1#32 := by
    intro s
    have := h1 (⟨b.val * 16 + p.val, by omega⟩, s) (Finset.mem_univ _)
    rw [ori_one, StableHlo.Predicate.cmpi_eq_iff, StableHlo.Predicate.cmpi_eq_iff] at this
    rw [← e s]
    exact this
  refine ⟨hbit, ?_⟩
  have hs := h2 ⟨b.val * 16 + p.val, by omega⟩ (Finset.mem_univ _)
  rw [StableHlo.Predicate.cmpi_eq_iff] at hs
  have hf : Finset.fold IntOp.addi (0#32) (fun s : Fin 4096 => B (pix b p s)) Finset.univ = 8#32 := by
    rw [← hs]
    exact Finset.fold_congr fun s _ => congrArg B (e s).symm
  have hn : ∀ s, (B (pix b p s)).toNat = if ones B b p s.val then 1 else 0 := by
    intro s
    have h2 := ones_iff B b p s
    rcases hbit s with h1 | h1
    · rw [if_neg (fun h => by rw [h2, h1] at h; exact absurd h (by decide)), h1]; rfl
    · rw [if_pos (h2.mpr h1), h1]; rfl
  have hsum : ∑ s, (B (pix b p s)).toNat = Nat.count (ones B b p) 4096 := by
    rw [count_eq_sum]; exact Finset.sum_congr rfl fun s _ => hn s
  have hle : Nat.count (ones B b p) 4096 ≤ 4096 := Nat.count_le _
  have hlt : ∑ s, (B (pix b p s)).toNat < 2 ^ 32 := by rw [hsum]; omega
  have h3 := StableHlo.Predicate.toNat_fold_addi Finset.univ (fun s : Fin 4096 => B (pix b p s)) hlt
  rw [hf, hsum] at h3
  exact h3.symm

end Cert.Rows
end
-- ==== Proof.RefOut.lean ====
/- The reference's three results in the images' comparisons. -/
module

public import proofs.«01_k».proof.Proof.RefAcc
public import proofs.«01_k».proof.Proof.Pre
public import Idealize.ShloMosaic.Lib.IndicatorCount

@[expose] public section

set_option maxRecDepth 16384

noncomputable section

open Idealize.ShloMosaic Idealize.ShloMosaic.TcCoe

namespace Cert.ReferenceIdeal.Value
open Cert.ReferenceIdeal Cert.ReferenceIdeal.Gen Cert.Scalar Cert.Rows Cert.Rank

/-- The weights of the points. -/
theorem weiTail_apply (D : FVec Ideal S4x22 .f32) (k : Fin 22) : weiTail D (ix1 k)
    = Ideal.div 1 (Ideal.sqrt (∑ b, D (ix2 b k)) + Ideal.ofBits .f32 0x322BCC77#32) := by
  pointwise [weiTail]

/-- The first result, in the weights and the accuracies. -/
theorem lossTail_apply (G : FVec Ideal S22 .f32) (P : FVec Ideal S4x22 .f32) (j : S1x1.Idx) : lossTail G P j
    = Ideal.div (-(Ideal.div (∑ k : Fin 22, G (ix1 k) * Ideal.div (∑ b : Fin 4, P (ix2 b k)) (Ideal.ofBits .f32 0x40800000#32))
        (∑ k : Fin 22, G (ix1 k)) * Ideal.ofBits .f32 0x40800000#32)) (Ideal.ofBits .f32 0x40800000#32) := by
  pointwise [lossTail]

/-- A disjunction of bits holds where some bit does. -/
theorem fold_ori_iff {ι : Type} (s : Finset ι) (p : ι → BitVec 1) :
    Finset.fold IntOp.ori (0#1) p s = 1#1 ↔ ∃ x ∈ s, p x = 1#1 := by
  classical
  induction s using Finset.induction_on with
  | empty => simp
  | insert a s ha ih => rw [Finset.fold_insert ha, ori_one, Finset.exists_mem_insert, ← ih]

open Classical in
/-- The count of the rows in which some positive is above every negative, as a number. -/
theorem row_count (S : Fin 16 → Fin 8 → Fin 4088 → BitVec 1) (u : Box)
    (h : ∀ p a c, S p a c = BitVec.ofBool (decide (0 < u p a c))) :
    (FloatOps.sitofp (F := Ideal) .f32 (Finset.fold IntOp.addi (0#32) (fun p => BitVec.setWidth 32 (Finset.fold IntOp.ori (0#1)
      (fun a => Finset.fold IntOp.andi (1#1) (fun c => S p a c) Finset.univ) Finset.univ)) Finset.univ) : EReal)
      = ((∑ p, if ∃ a, ∀ c, 0 < u p a c then (1 : ℝ) else 0 : ℝ) : EReal) := by
  have hp : ∀ p, Finset.fold IntOp.ori (0#1) (fun a => Finset.fold IntOp.andi (1#1) (fun c => S p a c) Finset.univ) Finset.univ = 1#1
      ↔ ∃ a, ∀ c, 0 < u p a c := by
    intro p
    simp only [fold_ori_iff, fold_andi, Finset.mem_univ, true_and, true_implies, h, StableHlo.Predicate.ofBool_eq_one_iff, decide_eq_true_eq]
  rw [IndicatorCount.fold_addi_setWidth_eq_card]
  simp only [hp]
  rw [Finset.sum_boole]
  have hc : (Finset.univ.filter fun p => ∃ a, ∀ c, 0 < u p a c).card ≤ 16 := (Finset.card_le_univ _).trans (by simp)
  generalize (Finset.univ.filter fun p => ∃ a, ∀ c, 0 < u p a c).card = n at hc ⊢
  show ((((BitVec.ofNat 32 n).toInt : ℝ)) : EReal) = _
  rw [StableHlo.Predicate.toInt_ofNat_small n (by omega)]
  simp

variable (A : FVec Ideal S4x16x64x64 .f32) (B : IVec S4x16x64x64 32) (hB : Good B) (W : FVec Ideal S4x5x16x8x4088 .f32)
  (Y : FVec Ideal S4x5 .f32)
include hB

/-- The second result: the mean share of rows with a positive above every negative. -/
theorem accR_apply (j : S1x1.Idx) :
    accR A B j = Ideal.div (∑ b : Fin 4, ((accShare (imgBox A B b) : ℝ) : EReal)) (Ideal.ofBits .f32 0x40800000#32) := by
  have h := bitR_apply A B hB
  unfold accR
  generalize bitR A B = S at h ⊢
  pointwise
  rw [ofBits_sixteen]
  refine congrArg (fun x => Ideal.div x _) (Finset.sum_congr rfl fun b _ => ?_)
  rw [Ideal.div_coe (by norm_num)]
  refine (congrArg (· * _) (row_count (fun p a c => S (ix4 b p a c)) (imgBox A B b) (h b))).trans ?_
  unfold accShare
  rw [EReal.coe_mul]

/-- The third result: the mean comparison of the last image. -/
theorem meanR_apply (j : S1x1.Idx) :
    meanR A B j = Ideal.div ((∑ p, ∑ a, ∑ c, imgBox A B 3 p a c : ℝ) : EReal) (Ideal.ofBits .f32 0x48FF8000#32) := by
  have h := curR_apply A B hB 3
  unfold meanR
  generalize curR A B = S at h ⊢
  pointwise
  refine congrArg (fun x => Ideal.div x _) ?_
  simp only [h, coe_sum]

end Cert.ReferenceIdeal.Value
end
-- ==== Proof.Equal.lean ====
/- The kernel's three results are the reference's. -/
module

public import proofs.«01_k».proof.Proof.Blocks
public import proofs.«01_k».proof.Proof.RefOut

@[expose] public section

set_option maxRecDepth 16384

noncomputable section

open Idealize.ShloMosaic Idealize.ShloMosaic.TcCoe Idealize.SL.Sem

namespace Cert.KernelIdeal.Value
open Cert.KernelIdeal Cert.KernelIdeal.Gen Cert.Scalar Cert.Rows

/-- The kernel's last step, in the summed distances and accuracies. -/
theorem pay5_eq (d p : Vec Ideal S1x22 .f32) : k0_pay5 (F := Ideal) d p
    = (0 : EReal) - Ideal.div (∑ k : Fin 22, Ideal.div 1 (Ideal.sqrt (d (ix2 0 k)) + Ideal.ofBits .f32 0x322BCC77#32)
        * Ideal.div (p (ix2 0 k)) (Ideal.ofBits .f32 0x40800000#32))
      (∑ k : Fin 22, Ideal.div 1 (Ideal.sqrt (d (ix2 0 k)) + Ideal.ofBits .f32 0x322BCC77#32)) := by
  pointwise [k0_pay5]
  simp only [Finset.univ_unique, Finset.sum_singleton]

/-- Four times a number, negated and divided by four, is the number negated. -/
theorem neg_four (x : EReal) :
    Ideal.div (-(x * Ideal.ofBits .f32 0x40800000#32)) (Ideal.ofBits .f32 0x40800000#32) = 0 - x := by
  rw [ofBits_four, Ideal.div_coe (by norm_num)]
  induction x with
  | bot => rw [EReal.bot_mul_coe_of_pos (by norm_num), EReal.neg_bot, EReal.top_mul_coe_of_pos (by norm_num)]; rfl
  | top => rw [EReal.top_mul_coe_of_pos (by norm_num), EReal.neg_top, EReal.bot_mul_coe_of_pos (by norm_num)]; rfl
  | coe x =>
    rw [← EReal.coe_mul, ← EReal.coe_neg, ← EReal.coe_mul, ← EReal.coe_zero, ← EReal.coe_sub]
    refine congrArg _ ?_
    ring

/-- A sum over the grid is a sum over the images. -/
theorem sum_grid (f : Fin 4 → EReal) : ∑ t : Fin cfg0.N, f (img t) = ∑ b, f b :=
  Fintype.sum_equiv (finCongr (by decide +kernel : cfg0.N = 4)) _ _ fun t => rfl

variable (m : (ℓ : Loc nD τ sig) → Buf (Elt Ideal) ℓ) (c : Dev nD) (hB : Good (bitA m c))
include hB

/-- The first result. -/
theorem loss_eq (j : S1x1.Idx) : k0_pay5 (F := Ideal) (disTot m c) (pckTot m c)
    = ReferenceIdeal.Value.lossR (predA m c) (bitA m c) (m ((c.tc : Thread nD τ).loc main_arg3)) (m ((c.tc : Thread nD τ).loc main_arg4)) j := by
  have hd : ∀ k : Fin 22, disTot m c (ix2 0 k)
      = ∑ b : Fin 4, ReferenceIdeal.Value.disR (predA m c) (bitA m c) (m ((c.tc : Thread nD τ).loc main_arg3)) (ix2 b k) := fun k => by
    rw [← sum_grid]
    refine Finset.sum_congr rfl fun t _ => ?_
    rw [ReferenceIdeal.Value.disR_apply _ _ hB]
    exact disAt_apply m c hB t k
  have hp : ∀ k : Fin 22, pckTot m c (ix2 0 k)
      = ∑ b : Fin 4, ReferenceIdeal.Value.pckR (predA m c) (bitA m c) (m ((c.tc : Thread nD τ).loc main_arg4)) (ix2 b k) := fun k => by
    rw [← sum_grid]
    refine Finset.sum_congr rfl fun t _ => ?_
    rw [ReferenceIdeal.Value.pckR_apply _ _ hB]
    exact pckAt_apply m c hB t k
  unfold ReferenceIdeal.Value.lossR
  rw [ReferenceIdeal.Value.lossTail_apply, neg_four, pay5_eq]
  unfold ReferenceIdeal.Value.weiR
  simp only [hd, hp, ReferenceIdeal.Value.weiTail_apply]

/-- The second result. -/
theorem acc_eq (j : S1x1.Idx) : k0_pay6 (F := Ideal) (∑ p : Fin cfg0.N, (accAt m c p : EReal) : EReal)
    = ReferenceIdeal.Value.accR (predA m c) (bitA m c) j := by
  rw [ReferenceIdeal.Value.accR_apply _ _ hB, ← sum_grid]
  refine congrArg (fun x => Ideal.div x (Ideal.ofBits .f32 0x40800000#32)) (Finset.sum_congr rfl fun t _ => ?_)
  exact accAt_eq m c hB t

/-- The third result. -/
theorem mean_result_eq (j : S1x1.Idx) : k0_pay4 (F := Ideal) (rowB (iblk m c 0 t0_3) (iblk m c 1 t0_3))
    = ReferenceIdeal.Value.meanR (predA m c) (bitA m c) j := by
  rw [ReferenceIdeal.Value.meanR_apply _ _ hB, mean_eq, box_eq m c hB]
  rfl

end Cert.KernelIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_eight_ones
public import proofs.«01_k».proof.Proof.Gen.KernelIdeal.Value
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel, at the words of the machine, ends with its arguments unchanged and every counter at zero. -/
theorem frame_kernel : Cert.quiescent_Kernel := fun m g _ => Cert.Kernel.Gen.frame m g

/-- The same of the kernel at the extended reals. -/
theorem frame_kernelIdeal : Cert.quiescent_KernelIdeal := fun m g _ => Cert.KernelIdeal.Gen.frame m g

/-- The same under the precondition. -/
theorem frame_kernelIdeal_pre : Cert.quiescent_KernelIdeal_pre_eight_ones := fun m g _ => Cert.KernelIdeal.Gen.frame m g

/-- The reference at the extended reals ends with its arguments unchanged and every counter at zero. -/
theorem frame_referenceIdeal : Cert.quiescent_ReferenceIdeal := fun m g _ =>
  θ_run_mono (Cert.ReferenceIdeal.Value.run m g) fun r h =>
    ⟨fun c => (h c).2.2.2, sem_eq_zero_of_no_sems (by decide) _⟩

/-- The same under the precondition. -/
theorem frame_referenceIdeal_pre : Cert.quiescent_ReferenceIdeal_pre_eight_ones :=
  fun m g h => frame_referenceIdeal m g trivial

/-- The named constant of the kernel denotes −∞ at the extended reals. -/
theorem preserves : Cert.preserves_Kernel_KernelIdeal := IdealRules.named_const.statement _ _ _ _ _ rfl

open Cert.KernelIdeal.Value Cert.ReferenceIdeal.Value in
/-- The kernel's three results are the reference's at the extended reals, where each row of the target holds eight ones
    and is zero elsewhere. -/
theorem algebraic : Cert.algebraic_KernelIdeal_ReferenceIdeal_pre_eight_ones := by
  intro m g m' g' hpre heq
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g, ?_⟩
  refine θ_run_mono (run_staged m' g') fun r h c => ?_
  obtain ⟨h0, h1, h2, hk⟩ := h c
  obtain ⟨e0, e1, e2, e3, e4⟩ := heq c
  have hB := Cert.Rows.good_of_pre _ _ _ _ _ (hpre c)
  rw [e0, e1, e3, e4] at h0
  rw [e0, e1] at h1 h2
  exact ⟨h0.trans ((funext fun j => (loss_eq m c hB j).symm).trans (arr7 m c).symm),
    h1.trans ((funext fun j => (acc_eq m c hB j).symm).trans (arr8 m c).symm),
    h2.trans ((funext fun j => (mean_result_eq m c hB j).symm).trans (arr9 m c).symm), hk⟩

theorem claim : Cert.Claim := ⟨Cert.Kernel.Gen.facts, Cert.KernelIdeal.Gen.facts, Cert.ReferenceIdeal.Gen.facts, Cert.Pre_eight_ones.Gen.facts,
  frame_kernel, frame_kernelIdeal, frame_kernelIdeal_pre, frame_referenceIdeal, frame_referenceIdeal_pre, preserves, algebraic⟩

end Cert.Proof

end
